-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S16x1024x64 : Shape := ⟨3, ![16, 1024, 64]⟩
abbrev S8192x64 : Shape := ⟨2, ![8192, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel

variable [Facts]

def fn {F : FTy → Type} [FloatOps F] (main_arg0 : FVec F S16x1024x64 .f32) (main_arg1 : FVec F S8192x64 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  main_v3
-- ==== KernelIdeal.lean ====
abbrev S16x1024x64 : Shape := ⟨3, ![16, 1024, 64]⟩
abbrev S8192x64 : Shape := ⟨2, ![8192, 64]⟩
abbrev S16384x64 : Shape := ⟨2, ![16384, 64]⟩
abbrev S_ : Shape := ⟨0, ![]⟩
abbrev S16384 : Shape := ⟨1, ![16384]⟩
abbrev S1x16384 : Shape := ⟨2, ![1, 16384]⟩
abbrev S8192 : Shape := ⟨1, ![8192]⟩
abbrev S1x8192 : Shape := ⟨2, ![1, 8192]⟩
abbrev S64x16384 : Shape := ⟨2, ![64, 16384]⟩
abbrev S64x1024 : Shape := ⟨2, ![64, 1024]⟩
abbrev S1x1024 : Shape := ⟨2, ![1, 1024]⟩
abbrev S8192x1024 : Shape := ⟨2, ![8192, 1024]⟩
abbrev S8192x1 : Shape := ⟨2, ![8192, 1]⟩
abbrev S1024 : Shape := ⟨1, ![1024]⟩
abbrev S8192x128 : Shape := ⟨2, ![8192, 128]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S16x1024 : Shape := ⟨2, ![16, 1024]⟩

abbrev nBuf : Table → Nat
  | .hbm => 22
  | .local .tc .vmem => 8
  | .local .scVector .vmem => 2
  | _ => 0

abbrev bufTy : (tb : Table) → Fin (nBuf tb) → BufTy
  | .hbm, ⟨0, _⟩ => ⟨S16x1024x64, .f32⟩
  | .hbm, ⟨1, _⟩ => ⟨S8192x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S1x16384, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S64x16384, .f32⟩
  | .hbm, ⟨12, _⟩ => ⟨S1x16384, .i32⟩
  | .hbm, ⟨13, _⟩ => ⟨S16384, .i32⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S1x16384, .i32⟩
  | .hbm, ⟨18, _⟩ => ⟨S16384x128, .f32⟩
  | .hbm, ⟨19, _⟩ => ⟨S16384x64, .f32⟩
  | .hbm, ⟨20, _⟩ => ⟨S16x1024x64, .f32⟩
  | .hbm, ⟨21, _⟩ => ⟨S16x1024, .i32⟩
  | .local .tc .vmem, ⟨0, _⟩ => ⟨S8192x64, .f32⟩
  | .local .tc .vmem, ⟨1, _⟩ => ⟨S64x1024, .f32⟩
  | .local .tc .vmem, ⟨2, _⟩ => ⟨S64x1024, .f32⟩
  | .local .tc .vmem, ⟨3, _⟩ => ⟨S1x1024, .f32⟩
  | .local .tc .vmem, ⟨4, _⟩ => ⟨S1x1024, .f32⟩
  | .local .tc .vmem, ⟨5, _⟩ => ⟨S1x8192, .f32⟩
  | .local .tc .vmem, ⟨6, _⟩ => ⟨S1x1024, .i32⟩
  | .local .tc .vmem, ⟨7, _⟩ => ⟨S1x1024, .i32⟩
  | .local .scVector .vmem, ⟨0, _⟩ => ⟨S2x1x128, .i32⟩
  | .local .scVector .vmem, ⟨1, _⟩ => ⟨S2x128x128, .f32⟩
  | _, _ => ⟨S16x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v10_scv : Ref sig .scVector := ⟨.hbm, 16, rfl⟩
abbrev main_v11_scv : Ref sig .scVector := ⟨.hbm, 17, rfl⟩
abbrev main_v12_scv : Ref sig .scVector := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x16384.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x16384.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S16384x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S16384x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x16384.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x16384.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S16384x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S16384x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S16384x128.size a)
theorem k1_off19_inb : ∀ (i : grid1.Coords) (v33_4_r0 : BitVec 32) (k1_hw5 : k1_chk5 i v33_4_r0), ∀ a, (k1_off19 i v33_4_r0) a + S128x128.size a ≤ S16384x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x64 : Shape := ⟨3, ![16, 1024, 64]⟩
abbrev S8192x64 : Shape := ⟨2, ![8192, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x8192 : Shape := ⟨2, ![64, 8192]⟩
abbrev S16384x8192 : Shape := ⟨2, ![16384, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S16x1024 : Shape := ⟨2, ![16, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S8192x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x64, .f32⟩
  | .hbm, ⟨9, _⟩ => ⟨S16384x64, .f32⟩
  | .hbm, ⟨10, _⟩ => ⟨S64x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384x64, .f32⟩
  | .hbm, ⟨44, _⟩ => ⟨S16384x64, .i1⟩
  | .hbm, ⟨45, _⟩ => ⟨S_, .f32⟩
  | .hbm, ⟨46, _⟩ => ⟨S16384x64, .f32⟩
  | .hbm, ⟨47, _⟩ => ⟨S16384x64, .f32⟩
  | .hbm, ⟨48, _⟩ => ⟨S16x1024x64, .f32⟩
  | .hbm, ⟨49, _⟩ => ⟨S16x1024x64, .f32⟩
  | .hbm, ⟨50, _⟩ => ⟨S16x1024x64, .f32⟩
  | .hbm, ⟨51, _⟩ => ⟨S16x1024, .i32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]
-- ==== Proof.Setup.lean ====
/- The kernel as the launch theorem sees it: its configuration, the ghost state its proof uses, and the arrays the
   SparseCore call reads and writes. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.Pipeline.Regions
public import Idealize.ShloMosaic.Lib.Pipeline.FrameBody
public import Idealize.ShloMosaic.Lib.Pipeline.Kit
public import Idealize.ShloMosaic.Lib.Exec
public import Idealize.ShloMosaic.Lib.Tactic

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI Idealize.SL.Sem
open Idealize.ShloMosaic.Rounds

variable {F : FTy → Type}

/-- The labels the SparseCore configuration's bodies are written over. -/
abbrev ΛP : Labels := Pipeline.Sig Λ₀ (Fin 1) fun p => (pcfgs (F := F) p).Adm
/-- The kernel's one SparseCore call. -/
abbrev K : SparseCore.Cfg τ sig (ΛP (F := F)) 1 := sc (F := F)
theorem nSub_zero : (K (F := F)).nSub 0 = 16 := rfl
theorem nCore_zero : (K (F := F)).nCore 0 = 2 := rfl
/-- The body table under the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no tile buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the TensorCore pipeline's rounds, and the transfers' counters. -/
abbrev UH : Type := URounds (GSem nD τ sig) ℕ
abbrev UU : Type := UH × (UR sig nD τ × Counters)
/-- The machine's resource algebra for this kernel. -/
abbrev MM (F : FTy → Type) : Type := MT nD τ sig (HIx 1) (Elt F) ℕ UU ℕ
/-- Where the handshakes' rounds lie in it. -/
abbrev EH : Emb UH (MM F) := embL
/-- Where the pipeline's rounds lie in it. -/
abbrev EP : Emb (UR sig nD τ) (MM F) := (Emb.inl : Emb (UR sig nD τ) (UR sig nD τ × Counters)).trans embR

/-- The table of codes, the index list and the gathered rows, in HBM. -/
abbrev tLoc (d : Dev nD) : Loc nD τ sig := (SparseCore.T d).loc main_v10
abbrev iLoc (d : Dev nD) : Loc nD τ sig := (SparseCore.T d).loc main_v11
abbrev oLoc (d : Dev nD) : Loc nD τ sig := (SparseCore.T d).loc main_v12

end Cert.Proof

end
-- ==== Proof.Lines.lean ====
/- The program read as three stretches of host operations around its two kernels. -/
module

public import proofs.«01_k».proof.Proof.Setup

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The host operations before the TensorCore kernel: norms, and the tokens transposed. -/
abbrev preOps : List (HloOp τ sig (Elt F)) :=
  [ StableHlo.reshape main_arg0 main_v0 (rfl : (.f32 : EltTy) = .f32) shapeCasts_S16x1024x64_S16384x64,
    StableHlo.binary main_v0 main_v0 main_v1 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v1 main_cst main_v2 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v2 main_v3 (broadcastInDim S1x16384 ![1] bcast_S16384_S1x16384_1 : (⟨S16384, .f32⟩ : BufTy).Contents (Elt F) → (⟨S1x16384, .f32⟩ : BufTy).Contents (Elt F)),
    StableHlo.binary main_arg1 main_arg1 main_v4 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v4 main_cst_0 main_v5 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v5 main_v6 (broadcastInDim S1x8192 ![1] bcast_S8192_S1x8192_1 : (⟨S8192, .f32⟩ : BufTy).Contents (Elt F) → (⟨S1x8192, .f32⟩ : BufTy).Contents (Elt F)),
    StableHlo.unary main_v0 main_v7 ((transpose S64x16384 [1, 0] · transposes_S16384x64_S64x16384_1_0) : (⟨S16384x64, .f32⟩ : BufTy).Contents (Elt F) → (⟨S64x16384, .f32⟩ : BufTy).Contents (Elt F)) ]
/-- The host operations between the two kernels: the index list reshaped and the table padded to 128 columns. -/
abbrev midOps : List (HloOp τ sig (Elt F)) :=
  [ StableHlo.reshape main_v8 main_v9 (rfl : (.i32 : EltTy) = .i32) shapeCasts_S1x16384_S16384,
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_arg1 : StableHlo.TRef sig ⟨S8192x64, .f32⟩) (.of main_call0_v0 : StableHlo.TRef sig ⟨S_, .f32⟩) (.of main_v10 : StableHlo.TRef sig ⟨S8192x128, .f32⟩) (fun x v => pad S8192x128 ![0, 0] ![0, 64] ![0, 0] x v pads_S8192x64_S8192x128_000_0640 h_S_),
    StableHlo.reshape main_v9 main_v11 (rfl : (.i32 : EltTy) = .i32) shapeCasts_S16384_S1x16384 ]
/-- The host operations after the SparseCore kernel: the padding sliced away and both results reshaped. -/
abbrev postOps : List (HloOp τ sig (Elt F)) :=
  [ StableHlo.unary main_v12 main_v13 ((extractStridedSlice S16384x64 ![0, 0] · slices_S16384x128_S16384x64_0_0) : (⟨S16384x128, .f32⟩ : BufTy).Contents (Elt F) → (⟨S16384x64, .f32⟩ : BufTy).Contents (Elt F)),
    StableHlo.reshape main_v13 main_v14 (rfl : (.f32 : EltTy) = .f32) shapeCasts_S16384x64_S16x1024x64,
    StableHlo.reshape main_v9 main_v15 (rfl : (.i32 : EltTy) = .i32) shapeCasts_S16384_S16x1024 ]

/-- The program is those three stretches around its two kernels. -/
theorem main_eq (d : Dev nD) : main (F := F) d = (StableHlo.seq preOps >>= fun _ =>
    Prog.lift (.customCall (SparseCore.inner (Pipeline.entry 0)) ()) >>= fun _ =>
    StableHlo.seq midOps >>= fun _ => (K (F := F)).run d 0 >>= fun _ => StableHlo.seq postOps) := by
  rfl

/-- Every stretch touches TensorCore buffers only and draws nothing fresh. -/
theorem preOps_sub : ∀ op ∈ (preOps : List (HloOp τ sig (Elt F))), op.bufs ⊆ StableHlo.tcRefs τ sig :=
  List.forall_iff_forall_mem.mp (by
    simp only [List.Forall]
    repeat' apply And.intro
    all_goals first | exact StableHlo.reshape_bufs_sub .. | exact StableHlo.unary_bufs_sub .. | exact StableHlo.binary_bufs_sub .. | exact StableHlo.nullary_bufs_sub ..)
theorem midOps_sub : ∀ op ∈ (midOps : List (HloOp τ sig (Elt F))), op.bufs ⊆ StableHlo.tcRefs τ sig :=
  List.forall_iff_forall_mem.mp (by
    simp only [List.Forall]
    repeat' apply And.intro
    all_goals first | exact StableHlo.reshape_bufs_sub .. | exact StableHlo.unary_bufs_sub .. | exact StableHlo.binary_bufs_sub .. | exact StableHlo.nullary_bufs_sub ..)
theorem postOps_sub : ∀ op ∈ (postOps : List (HloOp τ sig (Elt F))), op.bufs ⊆ StableHlo.tcRefs τ sig :=
  List.forall_iff_forall_mem.mp (by
    simp only [List.Forall]
    repeat' apply And.intro
    all_goals first | exact StableHlo.reshape_bufs_sub .. | exact StableHlo.unary_bufs_sub .. | exact StableHlo.binary_bufs_sub .. | exact StableHlo.nullary_bufs_sub ..)
theorem preOps_fresh : ∀ op ∈ (preOps : List (HloOp τ sig (Elt F))), op.fresh = ∅ :=
  List.forall_iff_forall_mem.mp (by simp only [List.Forall]; repeat' constructor)
theorem midOps_fresh : ∀ op ∈ (midOps : List (HloOp τ sig (Elt F))), op.fresh = ∅ :=
  List.forall_iff_forall_mem.mp (by simp only [List.Forall]; repeat' constructor)
theorem postOps_fresh : ∀ op ∈ (postOps : List (HloOp τ sig (Elt F))), op.fresh = ∅ :=
  List.forall_iff_forall_mem.mp (by simp only [List.Forall]; repeat' constructor)

end Cert.Proof

end
-- ==== Proof.Argmin.lean ====
/- The TensorCore kernel: what its body does at one grid point, and the data the pipeline rule needs. -/
module

public import proofs.«01_k».proof.Proof.Lines
public import Idealize.ShloMosaic.Lib.Pipeline.RegionsLoop
public import Idealize.ShloMosaic.Lib.WordCmp

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

set_option maxRecDepth 16384

open Idealize.ShloMosaic.TcCoe
open Idealize.ShloMosaic.Pipeline (Dat Cfg Window BodyObligation cellOf)

variable {F : FTy → Type} [FloatOps F]

variable (m : (ℓ : Loc nD τ sig) → Buf (Elt F) ℓ)

/-- Device `c`'s arrays when the TensorCore kernel starts. -/
abbrev V0 (c : Dev nD) : Valuation τ sig (Elt F) := StableHlo.after preOps (fun b => m (c, b))

/-- The block that window `w` shows the kernel at grid point `t`. -/
def inBlock (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- The whole rectangles that the kernel reads and writes. -/
abbrev rCodes : Rect S8192x64 := Rect.unit (s := S8192x64) ![0, 0] S8192x64.size inb_S8192x64_S8192x64_0_0
abbrev rToks : Rect S64x1024 := Rect.unit (s := S64x1024) ![0, 0] S64x1024.size inb_S64x1024_S64x1024_0_0
abbrev rRow : Rect S1x1024 := Rect.unit (s := S1x1024) ![0, 0] S1x1024.size inb_S1x1024_S1x1024_0_0
abbrev rNorms : Rect S1x8192 := Rect.unit (s := S1x8192) ![0, 0] S1x8192.size inb_S1x8192_S1x8192_0_0

/-- The row of indices that the kernel leaves, from its four input blocks. -/
def outRow (x0 : Vec F S8192x64 .f32) (x1 : Vec F S64x1024 .f32) (x2 : Vec F S1x1024 .f32) (x3 : Vec F S1x8192 .f32) : Vec F S1x1024 .i32 :=
  View.canon [⟨rRow, k0_pay1 (View.ld x0 rCodes) (View.ld x1 rToks) (View.ld x2 rRow) (View.ld x3 rNorms)⟩]

/-- The one store covers the row. -/
theorem outRow_cover (p0 : Vec F S1x1024 .i32) (y : S1x1024.Idx) :
    ∃ pc ∈ ([⟨rRow, p0⟩] : List (View.Piece (Elt F) S1x1024 .i32)), y ∈ pc.1.set :=
  View.cover_of_tiled [⟨rRow, p0⟩] S1x1024.size (by rfl) y

set_option maxHeartbeats 1000000 in
/-- The kernel's body: from its four inputs it leaves `outRow` in the fifth buffer and the inputs as they were. -/
theorem argmin_body (c : Dev nD) (i : grid0.Coords) (a1 : Memref sig .tc .vmem S8192x64 .f32) (h1 : a1.IsWhole)
    (a2 : Memref sig .tc .vmem S64x1024 .f32) (h2 : a2.IsWhole) (a3 : Memref sig .tc .vmem S1x1024 .f32) (h3 : a3.IsWhole)
    (a4 : Memref sig .tc .vmem S1x8192 .f32) (h4 : a4.IsWhole) (a5 : Memref sig .tc .vmem S1x1024 .i32) (h5 : a5.IsWhole)
    (x0 : Vec F S8192x64 .f32) (x1 : Vec F S64x1024 .f32) (x2 : Vec F S1x1024 .f32) (x3 : Vec F S1x8192 .f32) (Q : PUnit → sProp (MM F)) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (outRow x0 x1 x2 x3)) -∗ Q ⟨⟩))
      ⊢ wp frame (wpE (defs₀ (F := F)) Variants.none (c : Thread nD τ) none) Set.univ (cc0__argmin_tc_kernel i a1 h1 a2 h2 a3 h3 a4 h4 a5 h5) Q := by
  simp only [cc0__argmin_tc_kernel_eq_skeleton]; unfold cc0__argmin_tc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outRow_cover _)

/-- The waits that the TensorCore may have recorded so far lie below every handshake. -/
def lowWaits (c : Dev nD) : Set (SemLoc sig × HIx 1) := {p | (K (F := F)).lev ((c : Thread nD τ), p.1) p.2 ≤ 0}

/-- The pipeline's proof data: the arrays as found, each input's block unchanged, the output's block `outRow` of them,
    and the debts of the SparseCore call still to come. -/
def dats (_ : Fin 1) (c : Dev nD) : Dat τ (Elt F) (HIx 1) ℕ UU ℕ cfg0 c where
  A w := V0 m c (Pipeline.arrRef spec0 w)
  after w t := match w with
    | ⟨0, _⟩ => inBlock m c 0 t
    | ⟨1, _⟩ => inBlock m c 1 t
    | ⟨2, _⟩ => inBlock m c 2 t
    | ⟨3, _⟩ => inBlock m c 3 t
    | ⟨4, _⟩ => outRow (inBlock m c 0 t) (inBlock m c 1 t) (inBlock m c 2 t) (inBlock m c 3 t)
  Φ _ := iprop(emp)
  q _ := fullShare
  owed _ := (K (F := F)).Otc c 0
  recorded _ := lowWaits (F := F) c

theorem A_eq (c : Dev nD) (w : Fin cfg0.W) : (dats m 0 c).A w = V0 m c (Pipeline.arrRef spec0 w) := by
  dsimp only [dats]

/-- What each buffer holds after the body at a point. -/
theorem after_0 (c : Dev nD) (t : Fin cfg0.N) : (dats m 0 c).after 0 t = inBlock m c 0 t := by dsimp only [dats]
theorem after_1 (c : Dev nD) (t : Fin cfg0.N) : (dats m 0 c).after 1 t = inBlock m c 1 t := by dsimp only [dats]
theorem after_2 (c : Dev nD) (t : Fin cfg0.N) : (dats m 0 c).after 2 t = inBlock m c 2 t := by dsimp only [dats]
theorem after_3 (c : Dev nD) (t : Fin cfg0.N) : (dats m 0 c).after 3 t = inBlock m c 3 t := by dsimp only [dats]
theorem after_4 (c : Dev nD) (t : Fin cfg0.N) :
    (dats m 0 c).after 4 t = outRow (inBlock m c 0 t) (inBlock m c 1 t) (inBlock m c 2 t) (inBlock m c 3 t) := by dsimp only [dats]

/-- Each input's buffer holds its block before the body at every point, whether fetched there or earlier. -/
theorem before_0 (c : Dev nD) (t : Fin cfg0.N) (d) : (dats m 0 c).before 0 t d = inBlock m c 0 t :=
  ((dats m 0 c).before_in_eq_fetched 0 rfl (fun _ => rfl) (fun _ _ _ => rfl)
    (fun t => by rw [after_0]; unfold Pipeline.Dat.blockOf inBlock; rw [A_eq]; try rfl) t d).trans
    (by unfold Pipeline.Dat.fetched Pipeline.Dat.blockOf inBlock; rw [A_eq]; try rfl)
theorem before_1 (c : Dev nD) (t : Fin cfg0.N) (d) : (dats m 0 c).before 1 t d = inBlock m c 1 t :=
  ((dats m 0 c).before_in_eq_fetched 1 rfl (fun _ => rfl) (fun _ _ _ => rfl)
    (fun t => by rw [after_1]; unfold Pipeline.Dat.blockOf inBlock; rw [A_eq]; try rfl) t d).trans
    (by unfold Pipeline.Dat.fetched Pipeline.Dat.blockOf inBlock; rw [A_eq]; try rfl)
theorem before_2 (c : Dev nD) (t : Fin cfg0.N) (d) : (dats m 0 c).before 2 t d = inBlock m c 2 t :=
  ((dats m 0 c).before_in_eq_fetched 2 rfl (fun _ => rfl) (fun _ _ _ => rfl)
    (fun t => by rw [after_2]; unfold Pipeline.Dat.blockOf inBlock; rw [A_eq]; try rfl) t d).trans
    (by unfold Pipeline.Dat.fetched Pipeline.Dat.blockOf inBlock; rw [A_eq]; try rfl)
theorem before_3 (c : Dev nD) (t : Fin cfg0.N) (d) : (dats m 0 c).before 3 t d = inBlock m c 3 t :=
  ((dats m 0 c).before_in_eq_fetched 3 rfl (fun _ => rfl) (fun _ _ _ => rfl)
    (fun t => by rw [after_3]; unfold Pipeline.Dat.blockOf inBlock; rw [A_eq]; try rfl) t d).trans
    (by unfold Pipeline.Dat.fetched Pipeline.Dat.blockOf inBlock; rw [A_eq]; try rfl)

/-- What the body is given at point `t`, window by window, and what it gives back. -/
def bodyPre (c : Dev nD) (t : Fin cfg0.N) : sProp (MM F) :=
  iprop((dats m 0 c).Φ t.castSucc ∗ (dats m 0 c).owesAt none t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp (MM F) :=
  iprop((dats m 0 c).Φ t.succ ∗ (dats m 0 c).owesAt none t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a grid point. -/
theorem body_at (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt none t.succ = (dats m 0 c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (argmin_body c (grid0.coords t) _ _ _ _ _ _ _ _ _ _ (inBlock m c 0 t) (inBlock m c 1 t) (inBlock m c 2 t) (inBlock m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body named by the table is the body at the point's buffers. -/
theorem body_row (t : Fin cfg0.N) :
    defs₀ (F := F) .tc cfg0.body (cfg0.bodyArgs t (cfg0.slots t)) = bodyAt0 t := by
  rfl

/-- What the pipeline rule asks of the body. -/
theorem body_obligation (c : Dev nD) : BodyObligation (dats (F := F) m 0 c) (defs₀ (F := F)) Variants.none none Set.univ := fun t => by
  rw [bigSep_W0, bigSep_W0, body_row]
  exact triple_restated (body_at m c t) rfl .rfl fun _ => .rfl

end Cert.Proof

end
-- ==== Proof.Region.lean ====
/- The TensorCore kernel run inside the program, beside the debts of the SparseCore call that follows it. -/
module

public import proofs.«01_k».proof.Proof.Argmin

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

set_option maxRecDepth 16384

open Idealize.ShloMosaic.TcCoe
open Idealize.ShloMosaic.Pipeline (Dat Cfg Window BodyObligation cellOf)

variable {F : FTy → Type} [FloatOps F]

variable (m : (ℓ : Loc nD τ sig) → Buf (Elt F) ℓ)

/-- The pipeline has no prefetched tables. -/
abbrev noTables : (p : Fin 1) → (pcfgs (F := F) p).Adm := fun p => (cfgs p).toPCfg_adm

/-- The kernel has no semaphores of its own. -/
abbrev noSem : Fin 0 → SemLoc sig := fun k => k.elim0

/-- Device `c`'s row of indices when the TensorCore kernel ends. -/
def idxRow (c : Dev nD) : (⟨S1x16384, .i32⟩ : BufTy).Contents (Elt F) := (dats m 0 c).arrAt 4 cfg0.N

/-- Device `c`'s arrays when the TensorCore kernel ends: the row of indices written, all else as before. -/
def V1 (c : Dev nD) : Valuation τ sig (Elt F) :=
  Function.update (V0 m c) (Proc.devRef .tc main_v8) (idxRow m c)

theorem V1_row (c : Dev nD) : V1 m c (Proc.devRef .tc main_v8) = idxRow m c := Function.update_self ..
theorem V1_other (c : Dev nD) (b : Ref sig .tc) (h : b ≠ main_v8) : V1 m c (Proc.devRef .tc b) = V0 m c (Proc.devRef .tc b) :=
  Function.update_of_ne (StableHlo.devRef_ne_of_ne h) ..

/-- The arrays the windows end with are the ones `V1` names. -/
theorem arrs_end (c : Dev nD) (w : Fin 5) : (dats m 0 c).arrAt w cfg0.N = V1 m c (Proc.devRef .tc (Pipeline.arrRef spec0 w)) := by
  have hin : ∀ w : Fin 5, w ≠ 4 → (spec0 w).isOut = false := by decide
  have hne : ∀ w : Fin 5, w ≠ 4 → Pipeline.arrRef spec0 w ≠ main_v8 := by decide
  by_cases h : w = 4
  · subst h; exact (V1_row m c).symm
  · rw [V1_other m c _ (hne w h), (dats m 0 c).arrAt_in w (hin w h), A_eq]

/-- The debts of the TensorCore before its SparseCore call, all at the handshakes' indices. -/
theorem owed_none (c : Dev nD) (g : GSem nD τ sig) : (K (F := F)).Otc (N := 1) c 0 g none = 0 := by
  by_contra h
  have hl := (K (F := F)).lev_of_Otc_pos (Nat.pos_of_ne_zero h)
  rw [SparseCore.Cfg.lev_none] at hl
  omega

/-- What the TensorCore owes while its kernel runs. -/
abbrev tcOwes (c : Dev nD) : sProp (MM F) :=
  iprop(∃ W, ⌜(K (F := F)).WBelow (SparseCore.T c) W 0⌝ ∗ owes (SparseCore.T c) ((K (F := F)).Otc c 0) W)

theorem owesAt_intro (c : Dev nD) (t : Fin (cfg0.N + 1)) : tcOwes c ⊢ ((dats m 0 c).owesAt none t : sProp (MM F)) := by
  iintro ⟨%W, %h, HO⟩
  iexists W
  isplitr
  · ipureintro; exact fun p hp => Or.inl (h p hp)
  iexact HO

theorem owesAt_elim (c : Dev nD) (t : Fin (cfg0.N + 1)) : ((dats m 0 c).owesAt none t : sProp (MM F)) ⊢ tcOwes c := by
  iintro ⟨%W, %h, HO⟩
  iexists W
  isplitr
  · ipureintro
    intro p hp
    rcases h hp with h | ⟨w, s, h⟩
    · exact h
    · rw [h]; exact le_rfl
  iexact HO

set_option backward.isDefEq.respectTransparency.types false in
set_option maxHeartbeats 1000000 in
/-- The TensorCore kernel as one region of the program. -/
def region : Pipeline.RegionSeg (pcfgs (F := F)) noTables (dats m) (none : HIx 1) defs₀ 𝒱₀ (K (F := F)).L (K (F := F)).lev 0 where
  win := launch0.win.to₀
  block_pos := launch0.block_pos
  stage_whole := launch0.stage_whole
  K := Fin 0
  osem := noSem
  ho := (by decide : Pipeline.OwnSemFacts spec0 noSem)
  hbody := fun c => (body_obligation m c).loose
  hwaits := fun c => Pipeline.cellsWaits_intro _ _ _ _ _ fun w s t => (K (F := F)).mayWait_none _ (owed_none c)
  pre := fun c => iprop(StableHlo.held (c : Thread nD τ) (Pipeline.ucRefs τ sig) (V0 m c) ∗ tcOwes c)
  post := fun c => iprop(StableHlo.held (c : Thread nD τ) (Pipeline.ucRefs τ sig) (V1 m c) ∗ tcOwes c)
  X := fun _ => iprop(emp)
  Y := fun _ => iprop(emp)
  Z := fun c => Pipeline.unscopedRest spec0 c fun b => V0 m c b
  hentry := fun c => by
    have hsplit := Pipeline.arrays_of_unscopedBufs pcfgs noTables (dats m) launch0.win launch0.arr_whole c
      ((dats m 0 c).share_full fun _ => rfl) (fun b => V0 m c b) (A_eq m c)
    rw [← Pipeline.unscopedBufs_held]
    iintro ⟨⟨Hu, HO⟩, -, -⟩
    imodintro
    ihave H := hsplit $$ Hu
    icases H with ⟨Ha, Hr⟩
    isplitl [Ha]; · iexact Ha
    isplitr
    · unfold Pipeline.prefHeld
      rw [show (Finset.univ : Finset (Fin 0)) = ∅ from rfl, bigSep_empty]
      iempintro
    isplitl [HO]; · iapply (owesAt_intro m c 0); iexact HO
    isplitr; · iempintro
    iexact Hr
  hin := fun c => by
    show _ ⊢ (BIBase.emp : sProp (MM F))
    iintro -
    iempintro
  hout := fun c => by
    iintro -
    isplitr; · iempintro
    isplitr
    · unfold Pipeline.ownSems0
      rw [show (Finset.univ : Finset (Fin 0)) = ∅ from rfl, bigSep_empty]
      iempintro
    rw [scopedRest0_eq]
    iempintro
  hexit := fun c => by
    have hjoin := Pipeline.unscopedBufs_of_arrays pcfgs noTables launch0.win launch0.arr_whole c (dats m)
      ((dats m 0 c).share_full fun _ => rfl) (fun b => V0 m c b) (fun b => V1 m c b) ((dats m 0 c).arrAt · cfg0.N) (arrs_end m c)
      (fun b hb => V1_other m c b fun e => hb (by subst e; exact Finset.mem_image.mpr ⟨4, Finset.mem_univ _, rfl⟩))
    rw [← Pipeline.unscopedBufs_held]
    iintro ⟨Ha, HO, -, Hr⟩
    imodintro
    isplitl [Ha Hr]
    · iapply hjoin
      isplitl [Ha] <;> iassumption
    iapply (owesAt_elim m c (Fin.last cfg0.N)); iexact HO

/-- What the region is entered from and left at. -/
theorem region_pre (c : Dev nD) : (region m).pre c = iprop(StableHlo.held (c : Thread nD τ) (Pipeline.ucRefs τ sig) (V0 m c) ∗ tcOwes c) := rfl
theorem region_post (c : Dev nD) : (region m).post c = iprop(StableHlo.held (c : Thread nD τ) (Pipeline.ucRefs τ sig) (V1 m c) ∗ tcOwes c) := rfl

set_option backward.isDefEq.respectTransparency.types false in
/-- The TensorCore kernel run inside the program. -/
theorem argmin_wp (c : Dev nD) (Q : PUnit → sProp (MM F)) :
    iprop((iprop(boundary (c : Thread nD τ) ∗ StableHlo.held (c : Thread nD τ) (Pipeline.ucRefs τ sig) (V1 m c) ∗ tcOwes c) -∗ Q ⟨⟩)
        ∗ boundary (c : Thread nD τ) ∗ StableHlo.held (c : Thread nD τ) (Pipeline.ucRefs τ sig) (V0 m c) ∗ tcOwes c
        ∗ levAts (K (F := F)).L (K (F := F)).lev
        ∗ Pipeline.cellsGhost (Pipeline.pin (pcfgs (F := F)) noTables) EP 0 c ∗ Pipeline.toksInit (Pipeline.pin (pcfgs (F := F)) noTables) EP 0 c)
      ⊢ wp frame (wpE ((K (F := F)).defs (D (F := F))) 𝒱 (c : Thread nD τ) none) Set.univ
          (Prog.lift (.customCall (SparseCore.inner (Pipeline.entry 0)) ())) Q := by
  have hl := (K (F := F)).wp_liftProg (D (F := F)) 𝒱 (c : Thread nD τ) Set.univ none (Prog.lift (.customCall (Pipeline.entry 0) ())) Q
  refine BIBase.Entails.trans ?_ hl
  have hr := Pipeline.RegionSeg.wp (pcfgs (F := F)) noTables (dats m) none cellOf_inj EP defs₀ 𝒱₀ (K (F := F)).L (K (F := F)).lev (region m) c
    none (fun u h => nomatch h) (fun _ => .ret ⟨⟩) Q
  rw [region_pre, region_post] at hr
  refine BIBase.Entails.trans ?_ hr
  iintro ⟨Hk, Hb, Hh, HO, Hl, Hg, Ht⟩
  isplitl [Hk]
  · iintro ⟨Hb, Hh, HO⟩
    rw [wp_ret]; imodintro
    iapply Hk
    isplitl [Hb]; · iexact Hb
    isplitl [Hh] <;> iassumption
  isplitl [Hb]; · iexact Hb
  isplitl [Hh HO]; · isplitl [Hh] <;> iassumption
  isplitl [Hl]; · iexact Hl
  isplitl [Hg] <;> iassumption

end Cert.Proof

end
-- ==== Proof.Offsets.lean ====
/- The tile's pipeline at trip `t`: the words it carries from trip to trip are numbers below five, and with them every
   offset, every guard and every check of the tile's body is known. Each statement is settled by evaluation over the
   finitely many tiles and trips. -/
module

public import proofs.«01_k».proof.Proof.Setup

@[expose] public section

noncomputable section

namespace Cert.Proof

open Cert.KernelIdeal Cert.KernelIdeal.Gen
open Idealize.ShloMosaic

/-- The number of the first of the four blocks of 128 tokens that tile `i` gathers. -/
abbrev blk0 (i : grid1.Coords) : ℕ := 4 * (i 1).val + 64 * (i 0).val

theorem trips_four : k1_t1_loop.trips = 4 := by decide +kernel

/-- The five words carried into trip `t`: the index slots filled, read, the row slots filled, drained, and the block. -/
def carried (t : ℕ) : BitVec 32 × BitVec 32 × BitVec 32 × BitVec 32 × BitVec 32 :=
  (BitVec.ofNat 32 (min (t + 1) 4), BitVec.ofNat 32 t, BitVec.ofNat 32 t, BitVec.ofNat 32 (t - 1), BitVec.ofNat 32 (t % 4))

/-- A trip's number as a trip of the loop. -/
def trip (t : Fin 4) : Fin k1_t1_loop.trips := Fin.cast trips_four.symm t

section

variable (i : grid1.Coords) (t : Fin 4)

theorem off4_at : k1_off4 (carried t).1 = ![min (t.val + 1) 4 % 2, 0, 0] := by revert t; decide +kernel
theorem off6_at : k1_off6 (carried t).1 = ![min (t.val + 1) 4 % 2] := by revert t; decide +kernel
theorem off7_at : k1_off7 (carried t).2.1 = ![t.val % 2, 0, 0] := by revert t; decide +kernel
theorem off9_at : k1_off9 (carried t).2.1 = ![t.val % 2] := by revert t; decide +kernel
theorem off11_at : k1_off11 (carried t).2.1 = ![t.val % 2, 0, 0] := by revert t; decide +kernel
theorem off10_at : k1_off10 (carried t).2.2.1 = ![t.val % 2, 0, 0] := by revert t; decide +kernel
theorem off12_at : k1_off12 (carried t).2.2.1 = ![t.val % 2, 0, 0] := by revert t; decide +kernel
theorem off14_at : k1_off14 (carried t).2.2.1 = ![t.val % 2] := by revert t; decide +kernel
theorem off15_at : k1_off15 (carried t).2.2.2.1 = ![(t.val - 1) % 2, 0, 0] := by revert t; decide +kernel
theorem off17_at : k1_off17 (carried t).2.2.2.1 = ![(t.val - 1) % 2] := by revert t; decide +kernel
theorem off5_at : k1_off5 i (carried t).2.2.2.2 = ![0, 128 * (blk0 i + (t.val + 1) % 4)] := by revert i t; decide +kernel
theorem off8_at : k1_off8 i (carried t).2.2.2.2 = ![0, 128 * (blk0 i + t.val)] := by revert i t; decide +kernel
theorem off13_at : k1_off13 i (carried t).2.2.2.2 = ![128 * (blk0 i + t.val), 0] := by revert i t; decide +kernel
theorem off16_at : k1_off16 i (carried t).2.2.2.2 = ![128 * (blk0 i + (t.val + 3) % 4), 0] := by revert i t; decide +kernel
theorem off19_end : k1_off19 i 0#32 = ![128 * (blk0 i + 3), 0] := by revert i; decide +kernel
theorem off20_end : k1_off20 3#32 = ![1] := by decide +kernel
theorem off21_end : k1_off21 3#32 = ![1, 0, 0] := by decide +kernel

/-- The next block's indices are fetched on every trip but the last. -/
theorem cond1_at : k1_cond1 i (trip t) (carried t).2.2.2.2 = if t.val < 3 then 1#1 else 0#1 := by revert i t; decide +kernel
/-- Every trip waits for its own block's indices; -/
theorem cond2_at : k1_cond2 i (trip t) (carried t).2.2.2.2 = 1#1 := by revert i t; decide +kernel
/-- every trip starts its rows' write-back; -/
theorem cond5_at : k1_cond5 i (trip t) (carried t).2.2.2.2 = 1#1 := by revert i t; decide +kernel
/-- every trip but the first waits for the write-back before its own. -/
theorem cond7_at : k1_cond7 i (trip t) (carried t).2.2.2.2 = if t.val = 0 then 0#1 else 1#1 := by revert i t; decide +kernel

theorem chk3_at : k1_chk3 (carried t).2.1 := by revert t; unfold k1_chk3; decide +kernel
theorem chk2_at : k1_chk2 (carried t).2.2.1 := by revert t; unfold k1_chk2; decide +kernel
theorem chk1_at : k1_chk1 i (trip t) (carried t).1 (carried t).2.1 (carried t).2.2.1 (carried t).2.2.2.1 (carried t).2.2.2.2 := by
  revert i t; unfold k1_chk1; decide +kernel
theorem chk5_end : k1_chk5 i 0#32 := by revert i; unfold k1_chk5; decide +kernel
theorem chk4_end : k1_chk4 3#32 := by unfold k1_chk4; decide +kernel

end

end Cert.Proof

end
-- ==== Proof.Steps.lean ====
/- The tile's memory as its pipeline addresses it (two index slots, two row slots, four blocks of tokens and of rows),
   and the pipeline's six operations as steps over it: fetch a block's indices, wait for them, gather the rows they
   name, wait for those, write the rows back, wait for that. Each step says what the memory holds afterwards. -/
module

public import proofs.«01_k».proof.Proof.Offsets

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The gathered rows as a function of the table and the index list -/

/-- Row `n`, lane `l` of the table (rows past the table wrap around: no index in range reaches them). -/
def tabIx (n : ℕ) (l : Fin 128) : S8192x128.Idx := fun
  | 0 => ⟨n % 8192, Nat.mod_lt _ (by norm_num)⟩
  | 1 => l

/-- Entry `r` of the index list. -/
def lstIx (r : Fin 16384) : S1x16384.Idx := fun
  | 0 => ⟨0, Nat.one_pos⟩
  | 1 => r

/-- The gathered array: row `r` is the table's row at the list's entry `r`. -/
def gathered (tbl : S8192x128.Idx → Elt F .f32) (ix : S1x16384.Idx → Elt F .i32) : S16384x128.Idx → Elt F .f32 :=
  fun x => tbl (tabIx (ix (lstIx (x 0))).toNat (x 1))

/-! ## The tile and its memory -/

abbrev cV (i : grid1.Coords) : Fin τ.nSC := (i 0).castLE hcore1
abbrev jV (i : grid1.Coords) : Fin τ.nSub := (i 1).castLE hsub1
/-- The tile `i` of device `d`. -/
abbrev thr (d : Dev nD) (i : grid1.Coords) : Thread nD τ := SparseCore.V d (cV i) (jV i)

theorem iSl_inb (s : Fin 2) : ∀ a, (![s.val, 0, 0] : Fin 3 → ℕ) a + S1x1x128.size a ≤ S2x1x128.size a := by revert s; decide
theorem rSl_inb (s : Fin 2) : ∀ a, (![s.val, 0, 0] : Fin 3 → ℕ) a + S1x128x128.size a ≤ S2x128x128.size a := by revert s; decide
theorem sem_inb (s : Fin 2) : ∀ a, (![s.val] : Fin 1 → ℕ) a + S1.size a ≤ S2.size a := by revert s; decide
theorem iBlk_inb (i : grid1.Coords) (t : Fin 4) : ∀ a, (![0, 128 * (blk0 i + t.val)] : Fin 2 → ℕ) a + S1x128.size a ≤ S1x16384.size a := by
  revert i t; decide +kernel
theorem oBlk_inb (i : grid1.Coords) (t : Fin 4) : ∀ a, (![128 * (blk0 i + t.val), 0] : Fin 2 → ℕ) a + S128x128.size a ≤ S16384x128.size a := by
  revert i t; decide +kernel

/-- Index slot `s`. -/
abbrev iSl (s : Fin 2) : Memref sig .scVector .vmem S1x128 .i32 :=
  ((Memref.whole cc1_scoped0).slice (Rect.unit (s := S2x1x128) ![s.val, 0, 0] S1x1x128.size (iSl_inb s)) (fun _ => rfl)).squeeze S1x128 squeezes_S1x1x128_S1x128
/-- Row slot `s`. -/
abbrev rSl (s : Fin 2) : Memref sig .scVector .vmem S128x128 .f32 :=
  ((Memref.whole cc1_scoped2).slice (Rect.unit (s := S2x128x128) ![s.val, 0, 0] S1x128x128.size (rSl_inb s)) (fun _ => rfl)).squeeze S128x128 squeezes_S1x128x128_S128x128
/-- Block `t` of the tile's part of the index list. -/
abbrev iBlk (i : grid1.Coords) (t : Fin 4) : Memref sig .scVector .hbm S1x128 .i32 :=
  (Memref.whole main_v11_scv).slice (Rect.unit (s := S1x16384) ![0, 128 * (blk0 i + t.val)] S1x128.size (iBlk_inb i t)) (fun _ => rfl)
/-- Block `t` of the tile's part of the gathered array. -/
abbrev oBlk (i : grid1.Coords) (t : Fin 4) : Memref sig .scVector .hbm S128x128 .f32 :=
  (Memref.whole main_v12_scv).slice (Rect.unit (s := S16384x128) ![128 * (blk0 i + t.val), 0] S128x128.size (oBlk_inb i t)) (fun _ => rfl)
/-- The whole table. -/
abbrev tAll : Memref sig .scVector .hbm S8192x128 .f32 :=
  (Memref.whole main_v10_scv).slice (Rect.unit (s := S8192x128) ![0, 0] S8192x128.size inb_S8192x128_S8192x128_0_0) (fun _ => rfl)
/-- An index slot as the list the gather reads. -/
abbrev iLst (s : Fin 2) : Memref sig .scVector .vmem S128 .i32 :=
  ((iSl s).slice (Rect.unit (s := S1x128) ![0, 0] S1x128.size inb_S1x128_S1x128_0_0) (fun _ => rfl)).squeeze S128 squeezes_S1x128_S128
/-- The semaphores of the index slots, of the row slots, and of the gather. -/
abbrev semI (s : Fin 2) : DmaSem sig := ((cc1_scoped1.slice (Rect.unit (s := S2) ![s.val] S1.size (sem_inb s))).squeeze S_ squeezes_S1_S_).sem
abbrev semO (s : Fin 2) : DmaSem sig := ((cc1_scoped3.slice (Rect.unit (s := S2) ![s.val] S1.size (sem_inb s))).squeeze S_ squeezes_S1_S_).sem
abbrev semG : DmaSem sig := cc1_scoped4.sem

section

variable (d : Dev nD) (i : grid1.Coords)
variable (tbl : S8192x128.Idx → Elt F .f32) (ix : S1x16384.Idx → Elt F .i32)

/-- Index slot `s` holding anything; -/
def ISlot (s : Fin 2) : sProp (MM F) := iprop(∃ f, (iSl s).view.loc (thr d i) ↦[(iSl s).view.set]{fullShare} f)
/-- holding block `t` of the list. -/
def IFull (s : Fin 2) (t : Fin 4) : sProp (MM F) :=
  iprop(∃ f, ⌜(iSl s).view.read (Elt F) f = (iBlk i t).view.read (Elt F) ix⌝ ∗ (iSl s).view.loc (thr d i) ↦[(iSl s).view.set]{fullShare} f)
/-- Row slot `s` holding anything; -/
def RSlot (s : Fin 2) : sProp (MM F) := iprop(∃ f, (rSl s).view.loc (thr d i) ↦[(rSl s).view.set]{fullShare} f)
/-- holding the rows that block `t` of the list names. -/
def RFull (s : Fin 2) (t : Fin 4) : sProp (MM F) :=
  iprop(∃ f, ⌜(rSl s).view.read (Elt F) f = (oBlk i t).view.read (Elt F) (gathered tbl ix)⌝ ∗ (rSl s).view.loc (thr d i) ↦[(rSl s).view.set]{fullShare} f)
/-- Block `t` of the list, in HBM. -/
def IB (t : Fin 4) : sProp (MM F) := iprop((iBlk i t).view.loc (thr d i) ↦[(iBlk i t).view.set]{fullShare} ix)
/-- Block `t` of the result, in HBM, at the contents `f`. -/
def OB (f : S16384x128.Idx → Elt F .f32) (t : Fin 4) : sProp (MM F) := iprop((oBlk i t).view.loc (thr d i) ↦[(oBlk i t).view.set]{fullShare} f)
/-- A read share of the table. -/
def TB (q : PosShare TreeShare) : sProp (MM F) := iprop(tAll.view.loc (thr d i) ↦[tAll.view.set]{q} tbl)
abbrev SemI (s : Fin 2) : sProp (MM F) := semVal (thr d i, SemLoc.dma (semI s)) 0
abbrev SemO (s : Fin 2) : sProp (MM F) := semVal (thr d i, SemLoc.dma (semO s)) 0
abbrev SemG : sProp (MM F) := semVal (thr d i, SemLoc.dma semG) 0

/-- Block `t`'s indices on their way into slot `s`; -/
def FI (s : Fin 2) (t : Fin 4) : sProp (MM F) :=
  Transfers.Flight countersEmb (thr d i) (.dma (semI s)) (default : HIx 1) (iSl s).view.dmaCredit iprop(IFull d i ix s t ∗ IB d i ix t)
/-- block `t`'s rows on their way out of slot `s`. -/
def FO (s : Fin 2) (t : Fin 4) : sProp (MM F) :=
  Transfers.Flight countersEmb (thr d i) (.dma (semO s)) (default : HIx 1) (oBlk i t).view.dmaCredit iprop(OB d i (gathered tbl ix) t ∗ RSlot d i s)

variable {α : Type} (Q : α → sProp (MM F)) (k : PUnit.{1} → Prog (TpuEff nD τ sig (Elt F) Λ₀ (thr d i).2) α)

/-- The tile runs `p` to `Q`. -/
abbrev WP (p : Prog (TpuEff nD τ sig (Elt F) Λ₀ (thr d i).2) α) : sProp (MM F) :=
  wp frame (wpE (defs₀ (F := F)) 𝒱₀ (thr d i) none) Set.univ p Q

/-! ## The steps -/

/-- Start fetching block `t`'s indices into slot `s`. -/
theorem wp_fetch (s : Fin 2) (t : Fin 4) (o1 : Fin 3 → ℕ) (o2 : Fin 2 → ℕ) (o3 : Fin 1 → ℕ)
    (h1 : o1 = ![s.val, 0, 0]) (h2 : o2 = ![0, 128 * (blk0 i + t.val)]) (h3 : o3 = ![s.val])
    (i1 : ∀ a, o1 a + S1x1x128.size a ≤ S2x1x128.size a) (i2 : ∀ a, o2 a + S1x128.size a ≤ S1x16384.size a)
    (i3 : ∀ a, o3 a + S1.size a ≤ S2.size a) (w1) (w2) (w3) :
    iprop(ISlot d i s ∗ IB d i ix t ∗ SemI d i s)
      ⊢ iprop((FI d i ix s t -∗ WP d i Q (k ⟨⟩))
          -∗ WP d i Q (.op (.enqueueDma ((Memref.whole main_v11_scv).slice (Rect.unit (s := S1x16384) o2 S1x128.size i2) (fun _ => rfl))
              (.here (((Memref.whole cc1_scoped0).slice (Rect.unit (s := S2x1x128) o1 S1x1x128.size i1) (fun _ => rfl)).squeeze S1x128 squeezes_S1x1x128_S1x128))
              (.dma ((cc1_scoped1.slice (Rect.unit (s := S2) o3 S1.size i3)).squeeze S_ squeezes_S1_S_).sem) w1 w2 w3) k)) := by
  subst h1 h2 h3
  unfold ISlot FI IFull IB
  iintro ⟨⟨%f, Hs⟩, Hb, Hv⟩ Hk
  iapply (Transfers.wp_dmaLocal countersEmb 𝒱₀ (thr d i) none (src := iBlk i t) (dst := iSl s) (via := .same) (fd := f) (default : HIx 1) (iSl s).view.dmaCredit rfl
    (View.dmaCredit_pos _ (by decide)) subset_rfl) $$ [Hs Hb Hv]
  · isplitl [Hb]; · iexact Hb
    isplitl [Hs]; · iexact Hs
    iexact Hv
  iintro Hf
  iapply Hk
  iapply (Transfers.Flight_mono countersEmb (thr d i) ?_) $$ Hf
  iintro ⟨Hs, Hb⟩
  isplitl [Hs]
  · iexists _; isplitr; swap; · iexact Hs
    ipureintro
    exact View.read_write_univ _ _
  · iexact Hb

/-- Wait for block `t`'s indices. -/
theorem wp_fetched (s : Fin 2) (t : Fin 4) (o1 : Fin 3 → ℕ) (o2 : Fin 2 → ℕ) (o3 : Fin 1 → ℕ)
    (h1 : o1 = ![s.val, 0, 0]) (h3 : o3 = ![s.val])
    (i1 : ∀ a, o1 a + S1x1x128.size a ≤ S2x1x128.size a) (i2 : ∀ a, o2 a + S1x128.size a ≤ S1x16384.size a)
    (i3 : ∀ a, o3 a + S1.size a ≤ S2.size a) (w1) (w2) (O : CellTallies nD τ sig (HIx 1)) (W : Waits sig (HIx 1)) :
    iprop(FI d i ix s t ∗ owes (thr d i) O W ∗ Transfers.MayWaits (thr d i) (default : HIx 1) O)
      ⊢ iprop((iprop(IFull d i ix s t ∗ IB d i ix t ∗ SemI d i s ∗ owes (thr d i) O (insert (SemLoc.dma (semI s), default) W)) -∗ WP d i Q (k ⟨⟩))
          -∗ WP d i Q (.op (.waitDma2 ((cc1_scoped1.slice (Rect.unit (s := S2) o3 S1.size i3)).squeeze S_ squeezes_S1_S_).sem
              ((Memref.whole main_v11_scv).slice (Rect.unit (s := S1x16384) o2 S1x128.size i2) (fun _ => rfl))
              (((Memref.whole cc1_scoped0).slice (Rect.unit (s := S2x1x128) o1 S1x1x128.size i1) (fun _ => rfl)).squeeze S1x128 squeezes_S1x1x128_S1x128)
              w1 w2) k)) := by
  subst h1 h3
  unfold FI
  iintro ⟨Hf, HO, Hm⟩ Hk
  iapply (Transfers.wp_waitLocalO countersEmb 𝒱₀ (thr d i) none (dstw := iSl s) (default : HIx 1) rfl) $$ [Hf HO Hm]
  · isplitl [Hf]; · iexact Hf
    isplitl [HO]; · iexact HO
    iapply (Transfers.MayWaits.elim (SemLoc.dma (semI s))) $$ Hm
  iintro ⟨⟨Hs, Hb⟩, Hv, HO⟩
  iapply Hk
  isplitl [Hs]; · iexact Hs
  isplitl [Hb]; · iexact Hb
  isplitl [Hv]; · iexact Hv
  iexact HO

/-- Start writing block `t`'s rows back out of slot `s`. -/
theorem wp_store_start (s : Fin 2) (t : Fin 4) (g : S16384x128.Idx → Elt F .f32) (o1 : Fin 3 → ℕ) (o2 : Fin 2 → ℕ) (o3 : Fin 1 → ℕ)
    (h1 : o1 = ![s.val, 0, 0]) (h2 : o2 = ![128 * (blk0 i + t.val), 0]) (h3 : o3 = ![s.val])
    (i1 : ∀ a, o1 a + S1x128x128.size a ≤ S2x128x128.size a) (i2 : ∀ a, o2 a + S128x128.size a ≤ S16384x128.size a)
    (i3 : ∀ a, o3 a + S1.size a ≤ S2.size a) (w1) (w2) (w3) :
    iprop(RFull d i tbl ix s t ∗ OB d i g t ∗ SemO d i s)
      ⊢ iprop((FO d i tbl ix s t -∗ WP d i Q (k ⟨⟩))
          -∗ WP d i Q (.op (.enqueueDma (((Memref.whole cc1_scoped2).slice (Rect.unit (s := S2x128x128) o1 S1x128x128.size i1) (fun _ => rfl)).squeeze S128x128 squeezes_S1x128x128_S128x128)
              (.here ((Memref.whole main_v12_scv).slice (Rect.unit (s := S16384x128) o2 S128x128.size i2) (fun _ => rfl)))
              (.dma ((cc1_scoped3.slice (Rect.unit (s := S2) o3 S1.size i3)).squeeze S_ squeezes_S1_S_).sem) w1 w2 w3) k)) := by
  subst h1 h2 h3
  unfold RFull FO OB RSlot
  iintro ⟨⟨%f, %hf, Hs⟩, Hb, Hv⟩ Hk
  iapply (Transfers.wp_dmaLocal countersEmb 𝒱₀ (thr d i) none (src := rSl s) (dst := oBlk i t) (via := .same) (fd := g) (default : HIx 1) (oBlk i t).view.dmaCredit rfl
    (View.dmaCredit_pos _ (by decide)) subset_rfl) $$ [Hs Hb Hv]
  · isplitl [Hs]; · iexact Hs
    isplitl [Hb]; · iexact Hb
    iexact Hv
  iintro Hf
  iapply Hk
  iapply (Transfers.Flight_mono countersEmb (thr d i) ?_) $$ Hf
  iintro ⟨Hb, Hs⟩
  isplitl [Hb]
  · iapply (Entails.of_eq (pointsTo_congr (q := fullShare) fun x hx => ?_)) $$ Hb
    rw [show ReadAs.same.apply ((rSl s).view.read (Elt F) f) = (oBlk i t).view.read (Elt F) (gathered tbl ix) from hf,
      View.write_read_eq_piecewise]
    exact Finset.piecewise_eq_of_mem _ _ _ (show x ∈ (oBlk i t).view.setOn Finset.univ from hx)
  · iexists _; iexact Hs

/-- Wait for block `t`'s rows to be written. -/
theorem wp_stored (s : Fin 2) (t : Fin 4) (o1 : Fin 3 → ℕ) (o2 : Fin 2 → ℕ) (o3 : Fin 1 → ℕ)
    (h2 : o2 = ![128 * (blk0 i + t.val), 0]) (h3 : o3 = ![s.val])
    (i1 : ∀ a, o1 a + S1x128x128.size a ≤ S2x128x128.size a) (i2 : ∀ a, o2 a + S128x128.size a ≤ S16384x128.size a)
    (i3 : ∀ a, o3 a + S1.size a ≤ S2.size a) (w1) (w2) (O : CellTallies nD τ sig (HIx 1)) (W : Waits sig (HIx 1)) :
    iprop(FO d i tbl ix s t ∗ owes (thr d i) O W ∗ Transfers.MayWaits (thr d i) (default : HIx 1) O)
      ⊢ iprop((iprop(OB d i (gathered tbl ix) t ∗ RSlot d i s ∗ SemO d i s ∗ owes (thr d i) O (insert (SemLoc.dma (semO s), default) W)) -∗ WP d i Q (k ⟨⟩))
          -∗ WP d i Q (.op (.waitDma2 ((cc1_scoped3.slice (Rect.unit (s := S2) o3 S1.size i3)).squeeze S_ squeezes_S1_S_).sem
              (((Memref.whole cc1_scoped2).slice (Rect.unit (s := S2x128x128) o1 S1x128x128.size i1) (fun _ => rfl)).squeeze S128x128 squeezes_S1x128x128_S128x128)
              ((Memref.whole main_v12_scv).slice (Rect.unit (s := S16384x128) o2 S128x128.size i2) (fun _ => rfl))
              w1 w2) k)) := by
  subst h2 h3
  unfold FO
  iintro ⟨Hf, HO, Hm⟩ Hk
  iapply (Transfers.wp_waitLocalO countersEmb 𝒱₀ (thr d i) none (dstw := oBlk i t) (default : HIx 1) rfl) $$ [Hf HO Hm]
  · isplitl [Hf]; · iexact Hf
    isplitl [HO]; · iexact HO
    iapply (Transfers.MayWaits.elim (SemLoc.dma (semO s))) $$ Hm
  iintro ⟨⟨Hb, Hs⟩, Hv, HO⟩
  iapply Hk
  isplitl [Hb]; · iexact Hb
  isplitl [Hs]; · iexact Hs
  isplitl [Hv]; · iexact Hv
  iexact HO

end

end Cert.Proof

end
-- ==== Proof.Gather.lean ====
/- The indirect copy of one block: what it moves is the block of the gathered array that its list of indices names. -/
module

public import proofs.«01_k».proof.Proof.Steps

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Entry `n` of the list a slot holds, as a position of the slot. -/
theorem lst_pos (h : S128.numel = S1x128.numel) (n : Fin 128) :
    (((Rect.unit (s := S1x128) ![0, 0] S1x128.size inb_S1x128_S1x128_0_0).emb (Shape.reshapeEquiv h (S128.rowMajor.symm n))) 1).val = n.val := by
  revert h n; decide +kernel

section

variable (d : Dev nD) (i : grid1.Coords)
variable (tbl : S8192x128.Idx → Elt F .f32) (ix : S1x16384.Idx → Elt F .i32)

/-- Block `t` of the list at position `z`: the list's entry there. -/
theorem iBlk_read (t : Fin 4) (z : S1x128.Idx) (r : Fin 16384) (hr : r.val = 128 * (blk0 i + t.val) + (z 1).val) :
    (iBlk i t).view.read (Elt F) ix z = ix (lstIx r) := by
  rw [View.read_apply, cast_eq]
  congr 1
  funext a
  apply Fin.ext
  match a with
  | 0 => have h0 : (z 0).val < 1 := (z 0).isLt
         show 0 + 1 * (z 0).val = 0
         omega
  | 1 => show 128 * (blk0 i + t.val) + 1 * (z 1).val = r.val
         omega

/-- The copy's payload is the block of the gathered array. -/
theorem payload_eq (s : Fin 2) (t : Fin 4) (f : (iSl s).view.ty.Contents (Elt F)) (hix : ∀ y, (ix y).toNat < 8192)
    (hf : (iSl s).view.read (Elt F) f = (iBlk i t).view.read (Elt F) ix)
    (hn : S128.numel = S128x128.size gathers_S8192x128_S128x128.axis')
    (hin : ∀ x, ((iLst s).view.read (Elt F) f x).toNat < S8192x128.size gathers_S8192x128_S128x128.axis) :
    SparseCore.gatherPayload gathers_S8192x128_S128x128 (tAll.view.read (Elt F) tbl) (SparseCore.rows ((iLst s).view.read (Elt F) f) hn hin)
      = (oBlk i t).view.read (Elt F) (gathered tbl ix) := by
  funext x
  have hblk : blk0 i + t.val < 128 := by clear hf; revert i t; decide +kernel
  have hx0 : (x 0).val < 128 := (x 0).isLt
  unfold SparseCore.gatherPayload
  rw [View.read_apply, View.read_apply, cast_eq, cast_eq]
  unfold gathered
  congr 1
  funext a
  apply Fin.ext
  match a with
  | 0 =>
    have e1 : (tAll.view.emb (gathers_S8192x128_S128x128.idx (SparseCore.rows ((iLst s).view.read (Elt F) f) hn hin) x) 0).val
        = 0 + 1 * (SparseCore.rows ((iLst s).view.read (Elt F) f) hn hin (x 0)).val := by
      show 0 + 1 * (gathers_S8192x128_S128x128.idx (SparseCore.rows ((iLst s).view.read (Elt F) f) hn hin) x gathers_S8192x128_S128x128.axis).val = _
      rw [Shape.Gathers.idx_axis]; rfl
    rw [e1]
    have e2 : ((iLst s).view.read (Elt F) f (S128.rowMajor.symm ((x 0).cast hn.symm)))
        = ix (lstIx ((oBlk i t).view.emb x 0)) := by
      refine (congrFun hf _).trans (iBlk_read i ix t _ _ ?_)
      have e3 := lst_pos squeezes_S1x128_S128.numel_eq (x 0)
      show 128 * (blk0 i + t.val) + 1 * (x 0).val = _
      rw [one_mul]
      exact congrArg (128 * (blk0 i + t.val) + ·) e3.symm
    show 0 + 1 * ((iLst s).view.read (Elt F) f (S128.rowMajor.symm ((x 0).cast hn.symm))).toNat = (ix (lstIx ((oBlk i t).view.emb x 0))).toNat % 8192
    rw [e2, Nat.mod_eq_of_lt (hix _)]
    omega
  | 1 =>
    show 0 + 1 * (gathers_S8192x128_S128x128.idx (SparseCore.rows ((iLst s).view.read (Elt F) f) hn hin) x 1).val = 0 + 1 * (x 1).val
    rw [Shape.Gathers.idx_of_ne _ _ _ _ (by decide)]
    rfl

/-- The words of a filled slot name rows of the table. -/
theorem lst_lt (s : Fin 2) (t : Fin 4) (f : (iSl s).view.ty.Contents (Elt F)) (hix : ∀ y, (ix y).toNat < 8192)
    (hf : (iSl s).view.read (Elt F) f = (iBlk i t).view.read (Elt F) ix) :
    ∀ x, ((iLst s).view.read (Elt F) f x).toNat < S8192x128.size gathers_S8192x128_S128x128.axis := fun x => by
  rw [show (iLst s).view.read (Elt F) f x = (iBlk i t).view.read (Elt F) ix
      ((Rect.unit (s := S1x128) ![0, 0] S1x128.size inb_S1x128_S1x128_0_0).emb (Shape.reshapeEquiv squeezes_S1x128_S128.numel_eq x)) from congrFun hf _,
    View.read_apply, cast_eq]
  exact hix _

/-- A slot's list is the slot. -/
theorem iLst_set (s : Fin 2) : (iLst s).view.set = (iSl s).view.set := by
  show (((iSl s).view.slice (Rect.unit (s := S1x128) ![0, 0] S1x128.size inb_S1x128_S1x128_0_0)).reshape S128 squeezes_S1x128_S128.numel_eq).set = _
  rw [View.set_reshape]
  show (((iSl s).view.slice (Rect.unit (s := S1x128) ![0, 0] S1x128.size inb_S1x128_S1x128_0_0))).set = _
  rw [View.set_slice]
  rw [show (Rect.unit (s := S1x128) ![0, 0] S1x128.size inb_S1x128_S1x128_0_0).set = Finset.univ by decide +kernel]
  rfl

variable {α : Type} (Q : α → sProp (MM F)) (k : PUnit.{1} → Prog (TpuEff nD τ sig (Elt F) Λ₀ (thr d i).2) α)

theorem rSl_credit (s : Fin 2) : ∑ j, ((rSl s).slice (S128x128.rowRect gathers_S8192x128_S128x128.axis' j) (S128x128.stride_rowRect gathers_S8192x128_S128x128.axis' j)).view.dmaCredit
    = (rSl s).view.dmaCredit := by revert s; decide +kernel

/-- Block `t`'s gather, under way into row slot `s` from the list in index slot `s`. -/
def FG (q : PosShare TreeShare) (s : Fin 2) (t : Fin 4) : sProp (MM F) :=
  Transfers.Flight countersEmb (thr d i) (.dma semG) (default : HIx 1) (rSl s).view.dmaCredit
    iprop(RFull d i tbl ix s t ∗ TB d i tbl q ∗ ISlot d i s)

/-- Start the gather. -/
theorem wp_gather (q : PosShare TreeShare) (hix : ∀ y, (ix y).toNat < 8192) (s : Fin 2) (t : Fin 4) (o1 o2 : Fin 3 → ℕ)
    (h1 : o1 = ![s.val, 0, 0]) (h2 : o2 = ![s.val, 0, 0])
    (i1 : ∀ a, o1 a + S1x1x128.size a ≤ S2x1x128.size a) (i2 : ∀ a, o2 a + S1x128x128.size a ≤ S2x128x128.size a) (w1) (w2) (w3) (w4) :
    iprop(IFull d i ix s t ∗ RSlot d i s ∗ TB d i tbl q ∗ SemG d i)
      ⊢ iprop((FG d i tbl ix q s t -∗ WP d i Q (k ⟨⟩))
          -∗ WP d i Q (SparseCore.enqueueIndirectGather (p := (thr d i).2) rfl tAll
              (((Memref.whole cc1_scoped2).slice (Rect.unit (s := S2x128x128) o2 S1x128x128.size i2) (fun _ => rfl)).squeeze S128x128 squeezes_S1x128x128_S128x128)
              gathers_S8192x128_S128x128
              ((((((Memref.whole cc1_scoped0).slice (Rect.unit (s := S2x1x128) o1 S1x1x128.size i1) (fun _ => rfl)).squeeze S1x128 squeezes_S1x1x128_S1x128)).slice
                (Rect.unit (s := S1x128) ![0, 0] S1x128.size inb_S1x128_S1x128_0_0) (fun _ => rfl)).squeeze S128 squeezes_S1x128_S128)
              rfl cc1_scoped4.sem w1 w2 w3 w4 >>= k)) := by
  subst h1 h2
  unfold IFull RSlot TB FG
  iintro ⟨⟨%f, %hf, Hs⟩, ⟨%g, Hr⟩, Ht, Hv⟩ Hk
  have hin := lst_lt i ix s t f hix hf
  ihave Hs' := (Entails.of_eq (show ((iSl s).view.loc (thr d i) ↦[(iSl s).view.set]{fullShare} f : sProp (MM F))
      = (iLst s).view.loc (thr d i) ↦[(iLst s).view.set]{fullShare} f by rw [iLst_set])) $$ Hs
  iapply (SparseCore.wp_indirectGatherLocal countersEmb 𝒱₀ (thr d i) none (src := tAll) (dst := rSl s) (offs := iLst s) (hg := gathers_S8192x128_S128x128) (default : HIx 1)
      (rSl s).view.dmaCredit (rSl_credit s) (by decide) hin) $$ [Ht Hr Hs' Hv]
  · isplitl [Ht]; · iexact Ht
    isplitl [Hr]; · iexact Hr
    isplitl [Hs']; · iexact Hs'
    iexact Hv
  iintro Hf
  iapply Hk
  iapply (Transfers.Flight_mono countersEmb (thr d i) ?_) $$ Hf
  iintro ⟨Hr, Ht, Hs⟩
  unfold RFull ISlot TB
  isplitl [Hr]
  · iexists _; isplitr; swap; · iexact Hr
    ipureintro
    exact (View.read_write_univ _ _).trans (payload_eq i tbl ix s t f hix hf _ hin)
  isplitl [Ht]; · iexact Ht
  iexists f
  iapply (Entails.of_eq (show ((iLst s).view.loc (thr d i) ↦[(iLst s).view.set]{fullShare} f : sProp (MM F))
      = (iSl s).view.loc (thr d i) ↦[(iSl s).view.set]{fullShare} f by rw [iLst_set]))
  iexact Hs

/-- Wait for the gather. -/
theorem wp_gathered (q : PosShare TreeShare) (s : Fin 2) (t : Fin 4) (o2 : Fin 3 → ℕ)
    (h2 : o2 = ![s.val, 0, 0]) (i2 : ∀ a, o2 a + S1x128x128.size a ≤ S2x128x128.size a) (w1) (w2)
    (O : CellTallies nD τ sig (HIx 1)) (W : Waits sig (HIx 1)) :
    iprop(FG d i tbl ix q s t ∗ owes (thr d i) O W ∗ Transfers.MayWaits (thr d i) (default : HIx 1) O)
      ⊢ iprop((iprop(RFull d i tbl ix s t ∗ TB d i tbl q ∗ ISlot d i s ∗ SemG d i ∗ owes (thr d i) O (insert (SemLoc.dma semG, default) W)) -∗ WP d i Q (k ⟨⟩))
          -∗ WP d i Q (SparseCore.waitIndirectGather (p := (thr d i).2) cc1_scoped4.sem tAll
              (((Memref.whole cc1_scoped2).slice (Rect.unit (s := S2x128x128) o2 S1x128x128.size i2) (fun _ => rfl)).squeeze S128x128 squeezes_S1x128x128_S128x128)
              w1 w2 >>= k)) := by
  subst h2
  unfold FG
  iintro ⟨Hf, HO, Hm⟩ Hk
  iapply (Transfers.wp_waitLocalO countersEmb 𝒱₀ (thr d i) none (dstw := rSl s) (default : HIx 1) rfl) $$ [Hf HO Hm]
  · isplitl [Hf]; · iexact Hf
    isplitl [HO]; · iexact HO
    iapply (Transfers.MayWaits.elim (SemLoc.dma semG)) $$ Hm
  iintro ⟨⟨Hr, Ht, Hs⟩, Hv, HO⟩
  iapply Hk
  isplitl [Hr]; · iexact Hr
  isplitl [Ht]; · iexact Ht
  isplitl [Hs]; · iexact Hs
  isplitl [Hv]; · iexact Hv
  iexact HO

end

end Cert.Proof

end
-- ==== Proof.Trip.lean ====
/- One trip of the tile's pipeline, at a symbolic trip: block `t`'s indices arrive, the next block's start out, block
   `t`'s rows are gathered and start back, the rows of the block before arrive. -/
module

public import proofs.«01_k».proof.Proof.Gather

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The slot that block `n` uses. -/
abbrev par (n : ℕ) : Fin 2 := ⟨n % 2, Nat.mod_lt _ (by norm_num)⟩
/-- The block after `t`, and the block before. -/
abbrev nxt (t : Fin 4) (h : t.val < 3) : Fin 4 := ⟨t.val + 1, by omega⟩
abbrev prv (t : Fin 4) : Fin 4 := ⟨t.val - 1, by omega⟩

/-- The tile's first block, as the word the program computes. -/
abbrev base (i : grid1.Coords) : BitVec 32 :=
  Scalar.muli (Scalar.addi (Scalar.addi 0#32 (Scalar.muli (BitVec.ofNat 32 (i 1).val) 1#32)) (Scalar.muli (BitVec.ofNat 32 (i 0).val) 16#32)) 4#32

section

variable (d : Dev nD) (i : grid1.Coords)
variable (tbl : S8192x128.Idx → Elt F .f32) (ix : S1x16384.Idx → Elt F .i32) (g : S16384x128.Idx → Elt F .f32)
variable (q : PosShare TreeShare) (O : CellTallies nD τ sig (HIx 1))

/-- What the tile owes after waits of its own: nothing new but what it waited for, at no handshake. -/
def Owing (W : Waits sig (HIx 1)) : sProp (MM F) := iprop(∃ W', ⌜∀ p ∈ W', p ∈ W ∨ p.2 = none⌝ ∗ owes (thr d i) O W')

theorem Owing_insert (W W' : Waits sig (HIx 1)) (hW : ∀ p ∈ W', p ∈ W ∨ p.2 = none) (s : SemLoc sig) :
    ∀ p ∈ insert (s, (default : HIx 1)) W', p ∈ W ∨ p.2 = none := fun p hp => by
  rcases Finset.mem_insert.mp hp with hp | hp
  · exact .inr (hp ▸ rfl)
  · exact hW p hp

/-- What a trip takes of the index slots; -/
def tripI (t : Fin 4) : sProp (MM F) :=
  if h : t.val < 3 then iprop(ISlot d i (par (t.val + 1)) ∗ IB d i ix (nxt t h) ∗ SemI d i (par (t.val + 1))) else iprop(emp)
/-- and leaves of them: the next block on its way. -/
def tripI' (t : Fin 4) : sProp (MM F) := if h : t.val < 3 then FI d i ix (par (t.val + 1)) (nxt t h) else iprop(emp)
/-- What a trip takes of the row slots: the block before on its way out; -/
def tripO (t : Fin 4) : sProp (MM F) := if t.val = 0 then iprop(emp) else FO d i tbl ix (par (t.val - 1)) (prv t)
/-- and leaves of them: that block written. -/
def tripO' (t : Fin 4) : sProp (MM F) :=
  if t.val = 0 then iprop(emp) else iprop(OB d i (gathered tbl ix) (prv t) ∗ RSlot d i (par (t.val - 1)) ∗ SemO d i (par (t.val - 1)))

/-- The words that the first part of the body hands on. -/
def words (t : Fin 4) : Σ' (_ : k1_chk3 (carried t.val).2.1) (_ : k1_chk2 (carried t.val).2.2.1)
    (_ : k1_chk1 i (trip t) (carried t.val).1 (carried t.val).2.1 (carried t.val).2.2.1 (carried t.val).2.2.2.1 (carried t.val).2.2.2.2)
    (_ : BitVec 32) (_ : BitVec 1) (_ : BitVec 1) (_ : BitVec 32) (_ : BitVec 32) (_ : BitVec 32) (_ : BitVec 32), BitVec 1 :=
  let arg10 : BitVec 32 := (carried t.val).2.2.2.2
  let arg6 : BitVec 32 := (carried t.val).1
  let arg5 : BitVec 32 := Scf.iv 0#32 1#32 (trip t)
  let v66 : BitVec 32 := Scalar.addi arg10 (base i)
  let v68 : BitVec 32 := Scalar.select 1#1 (Scalar.subi arg10 1#32) arg10
  let v71 : BitVec 32 := Scalar.addi (Scalar.select (Scalar.cmpi .eq v68 4294967295#32) 3#32 v68) (base i)
  let v73 : BitVec 32 := Scalar.select 1#1 (Scalar.addi arg10 1#32) arg10
  let v76 : BitVec 32 := Scalar.addi (Scalar.select (Scalar.cmpi .eq v73 4#32) 0#32 v73) (base i)
  let v85 : BitVec 1 := Scalar.andi (Scalar.cmpi .ne v66 v76) (Scalar.xori (Scalar.cmpi .sge arg5 3#32) 1#1)
  ⟨chk3_at t, chk2_at t, chk1_at i t, arg5, Scalar.cmpi .eq arg5 0#32, Scalar.cmpi .eq arg5 3#32, v66, v71, v76,
    Scalar.select (Scalar.andi v85 1#1) (Scalar.addi arg6 1#32) arg6, Scalar.cmpi .ne v66 v71⟩

/-- The words that the body carries into the next trip. -/
def nextWords (t : Fin 4) : BitVec 32 × BitVec 32 × BitVec 32 × BitVec 32 × BitVec 32 :=
  let c := carried t.val
  let w := words i t
  let b64 := w.2.2.2.2.1
  let b65 := w.2.2.2.2.2.1
  let w66 := w.2.2.2.2.2.2.1
  let w71 := w.2.2.2.2.2.2.2.1
  let w76 := w.2.2.2.2.2.2.2.2.1
  let b116 := Scalar.ori (Scalar.cmpi .ne w66 w76) b65
  let b130 := Scalar.andi (Scalar.cmpi .ne w66 w71) (Scalar.xori b64 1#1)
  let w141 := Scalar.select 1#1 (Scalar.addi c.2.2.2.2 1#32) c.2.2.2.2
  (w.2.2.2.2.2.2.2.2.2.1, Scalar.select b116 (Scalar.addi c.2.1 1#32) c.2.1,
    Scalar.select (Scalar.andi b116 1#1) (Scalar.addi c.2.2.1 1#32) c.2.2.1,
    Scalar.select (Scalar.andi b130 1#1) (Scalar.addi c.2.2.2.1 1#32) c.2.2.2.1,
    Scalar.select (Scalar.cmpi .eq w141 4#32) 0#32 w141)

theorem nextWords_eq (t : Fin 4) : nextWords i t = carried (t.val + 1) := by revert i t; decide +kernel

variable {α : Type} (Q : α → sProp (MM F))

set_option maxHeartbeats 4000000 in
set_option maxRecDepth 8192 in
/-- The first part: the next block's indices start out. -/
theorem part1_wp (t : Fin 4) (kk : _ → Prog (TpuEff nD τ sig (Elt F) Λ₀ (thr d i).2) α) :
    tripI d i ix t ⊢ iprop((tripI' d i ix t -∗ WP d i Q (kk (words i t)))
      -∗ WP d i Q (k1_part1 (F := F) i (Memref.whole main_v10_scv) (Memref.isWhole_whole _) (Memref.whole main_v11_scv) (Memref.isWhole_whole _)
          (Memref.whole main_v12_scv) (Memref.isWhole_whole _) (Memref.whole cc1_scoped0) (Memref.isWhole_whole _) cc1_scoped1
          (Memref.whole cc1_scoped2) (Memref.isWhole_whole _) cc1_scoped3 cc1_scoped4 (base i) 0#32 1#32 (trip t)
          (carried t.val).1 (carried t.val).2.1 (carried t.val).2.2.1 (carried t.val).2.2.2.1 (carried t.val).2.2.2.2 >>= kk)) := by
  simp only [k1_part1_eq_skeleton]
  unfold k1_part1_skel
  simp only [Prog.lift, Prog.bind_op, Prog.bind_ret, Prog.pure_eq_ret, Prog.bind_assoc]
  iintro HI Hk
  iapply (wp_assume 𝒱₀ (thr d i) none Set.univ (chk3_at t))
  iapply (wp_assume 𝒱₀ (thr d i) none Set.univ (chk2_at t))
  iapply (wp_assume 𝒱₀ (thr d i) none Set.univ (chk1_at i t))
  by_cases ht : t.val < 3
  · have hc1 : k1_cond1 i (trip t) (carried t.val).2.2.2.2 = 1#1 := by rw [cond1_at, if_pos ht]
    have hm : min (t.val + 1) 4 = t.val + 1 := by omega
    have hmm : (t.val + 1) % 4 = t.val + 1 := by omega
    rw [dif_pos hc1]
    ihave HI' := (Entails.of_eq (show tripI (F := F) d i ix t = iprop(ISlot d i (par (t.val + 1)) ∗ IB d i ix (nxt t ht) ∗ SemI d i (par (t.val + 1))) from dif_pos ht)) $$ HI
    iapply (wp_fetch d i ix _ _ (par (t.val + 1)) (nxt t ht) _ _ _ ((off4_at t).trans (by rw [hm]))
      ((off5_at i t).trans (by rw [hmm])) ((off6_at t).trans (by rw [hm])) _ _ _ _ _ _) $$ HI'
    iintro HF
    iapply Hk
    iapply (Entails.of_eq (show tripI' (F := F) d i ix t = FI d i ix (par (t.val + 1)) (nxt t ht) from dif_pos ht).symm)
    iexact HF
  · have hc1 : ¬ k1_cond1 i (trip t) (carried t.val).2.2.2.2 = 1#1 := by rw [cond1_at, if_neg ht]; decide
    rw [dif_neg hc1]
    iapply Hk
    iapply (Entails.of_eq ((show tripI (F := F) d i ix t = iprop(emp) from dif_neg ht).trans (show tripI' (F := F) d i ix t = iprop(emp) from dif_neg ht).symm))
    iexact HI

set_option maxHeartbeats 4000000 in
set_option maxRecDepth 8192 in
/-- The second part: the block's own indices arrive, and the rows they name are gathered. -/
theorem part2_wp (t : Fin 4) (hix : ∀ y, (ix y).toNat < 8192) (W : Waits sig (HIx 1)) (h3) (h2) (h1) (a5 : BitVec 32) (b64 b65 : BitVec 1) (w66 w71 w76 : BitVec 32) (b96 : BitVec 1)
    (kk : _ → Prog (TpuEff nD τ sig (Elt F) Λ₀ (thr d i).2) α) :
    iprop(FI d i ix (par t.val) t ∗ RSlot d i (par t.val) ∗ TB d i tbl q ∗ SemG d i ∗ Transfers.MayWaits (thr d i) (default : HIx 1) O ∗ Owing d i O W)
      ⊢ iprop((iprop(IB d i ix t ∗ ISlot d i (par t.val) ∗ SemI d i (par t.val) ∗ RFull d i tbl ix (par t.val) t ∗ TB d i tbl q ∗ SemG d i ∗ Owing d i O W)
          -∗ WP d i Q (kk ⟨⟩))
      -∗ WP d i Q (k1_part2 (F := F) i (Memref.whole main_v10_scv) (Memref.isWhole_whole _) (Memref.whole main_v11_scv) (Memref.isWhole_whole _)
          (Memref.whole main_v12_scv) (Memref.isWhole_whole _) (Memref.whole cc1_scoped0) (Memref.isWhole_whole _) cc1_scoped1
          (Memref.whole cc1_scoped2) (Memref.isWhole_whole _) cc1_scoped3 cc1_scoped4 (trip t)
          (carried t.val).1 (carried t.val).2.1 (carried t.val).2.2.1 (carried t.val).2.2.2.1 (carried t.val).2.2.2.2 h3 h2 h1 a5 b64 b65 w66 w71 w76 b96 >>= kk)) := by
  simp only [k1_part2_eq_skeleton]
  unfold k1_part2_skel
  simp only [Prog.lift, Prog.bind_op, Prog.bind_ret, Prog.pure_eq_ret, Prog.bind_assoc, ite_self, dif_pos (cond2_at i t)]
  unfold Owing
  iintro ⟨HF, HR, HT, HG, #Hm, %W₁, %hW₁, HO⟩ Hk
  iapply (wp_fetched d i ix _ _ (par t.val) t _ _ _ (off7_at t) (off9_at t) _ _ _ _ _ O W₁) $$ [HF HO]
  · isplitl [HF]; · iexact HF
    isplitl [HO]; · iexact HO
    iexact Hm
  iintro ⟨HI, HB, HsI, HO⟩
  iapply (wp_gather d i tbl ix _ _ q hix (par t.val) t _ _ (off11_at t) (off10_at t) _ _ _ _ _ _) $$ [HI HR HT HG]
  · isplitl [HI]; · iexact HI
    isplitl [HR]; · iexact HR
    isplitl [HT]; · iexact HT
    iexact HG
  iintro HF
  iapply (wp_gathered d i tbl ix _ _ q (par t.val) t _ (off10_at t) _ _ _ O _) $$ [HF HO]
  · isplitl [HF]; · iexact HF
    isplitl [HO]; · iexact HO
    iexact Hm
  iintro ⟨HR, HT, HI, HG, HO⟩
  iapply Hk
  isplitl [HB]; · iexact HB
  isplitl [HI]; · iexact HI
  isplitl [HsI]; · iexact HsI
  isplitl [HR]; · iexact HR
  isplitl [HT]; · iexact HT
  isplitl [HG]; · iexact HG
  iexists _; isplitr
  swap; · iexact HO
  ipureintro; exact Owing_insert W _ (Owing_insert W _ hW₁ _) _

/-- The loop's body on the kernel's own memory. -/
abbrev tripBody (t : Fin 4) :=
  k1_t1_body (F := F) i (Memref.whole main_v10_scv) (Memref.isWhole_whole _) (Memref.whole main_v11_scv) (Memref.isWhole_whole _)
    (Memref.whole main_v12_scv) (Memref.isWhole_whole _) (Memref.whole cc1_scoped0) (Memref.isWhole_whole _) cc1_scoped1
    (Memref.whole cc1_scoped2) (Memref.isWhole_whole _) cc1_scoped3 cc1_scoped4 (base i) (trip t) (carried t.val)

set_option maxHeartbeats 4000000 in
set_option maxRecDepth 8192 in
theorem trip_wp (t : Fin 4) (hix : ∀ y, (ix y).toNat < 8192) (W : Waits sig (HIx 1)) :
    iprop(FI d i ix (par t.val) t ∗ tripI d i ix t ∗ RSlot d i (par t.val) ∗ OB d i g t ∗ SemO d i (par t.val) ∗ tripO d i tbl ix t
        ∗ TB d i tbl q ∗ SemG d i ∗ Transfers.MayWaits (thr d i) (default : HIx 1) O ∗ Owing d i O W)
      ⊢ WP d i (fun acc => iprop(⌜acc = carried (t.val + 1)⌝ ∗ tripI' d i ix t ∗ IB d i ix t ∗ ISlot d i (par t.val) ∗ SemI d i (par t.val)
          ∗ FO d i tbl ix (par t.val) t ∗ tripO' d i tbl ix t ∗ TB d i tbl q ∗ SemG d i ∗ Owing d i O W)) (tripBody (F := F) i t) := by
  unfold tripBody k1_t1_body
  iintro ⟨HF, HI, HR, HB, HsO, HO, HT, HG, #Hm, HW⟩
  dsimp only
  iapply (part1_wp d i ix _ t _) $$ HI
  iintro HI
  unfold words
  dsimp only
  iapply (part2_wp d i tbl ix q O _ t hix W _ _ _ _ _ _ _ _ _ _ _) $$ [HF HR HT HG HW]
  · isplitl [HF]; · iexact HF
    isplitl [HR]; · iexact HR
    isplitl [HT]; · iexact HT
    isplitl [HG]; · iexact HG
    isplitr; · iexact Hm
    iexact HW
  iintro ⟨HIB, HIS, HsI, HR, HT, HG, HW⟩
  simp only [Prog.lift, Prog.bind_op, Prog.bind_ret, Prog.pure_eq_ret, Prog.bind_assoc, ite_self, dif_pos (cond5_at i t)]
  iapply (wp_store_start d i tbl ix _ _ (par t.val) t g _ _ _ (off12_at t) (off13_at i t) (off14_at t) _ _ _ _ _ _) $$ [HR HB HsO]
  · isplitl [HR]; · iexact HR
    isplitl [HB]; · iexact HB
    iexact HsO
  iintro HFO
  by_cases ht : t.val = 0
  · have hc7 : ¬ k1_cond7 i (trip t) (carried t.val).2.2.2.2 = 1#1 := by rw [cond7_at, if_pos ht]; decide
    rw [dif_neg hc7]
    iapply (le_wp_ret _ _)
    isplitr; · ipureintro; exact nextWords_eq i t
    isplitl [HI]; · iexact HI
    isplitl [HIB]; · iexact HIB
    isplitl [HIS]; · iexact HIS
    isplitl [HsI]; · iexact HsI
    isplitl [HFO]; · iexact HFO
    isplitl [HO]
    · iapply (Entails.of_eq ((show tripO (F := F) d i tbl ix t = iprop(emp) from if_pos ht).trans (show tripO' (F := F) d i tbl ix t = iprop(emp) from if_pos ht).symm))
      iexact HO
    isplitl [HT]; · iexact HT
    isplitl [HG]; · iexact HG
    iexact HW
  · have hc7 : k1_cond7 i (trip t) (carried t.val).2.2.2.2 = 1#1 := by rw [cond7_at, if_neg ht]
    have hm : (t.val + 3) % 4 = t.val - 1 := by omega
    rw [dif_pos hc7]
    ihave HO' := (Entails.of_eq (show tripO (F := F) d i tbl ix t = FO d i tbl ix (par (t.val - 1)) (prv t) from if_neg ht)) $$ HO
    unfold Owing
    icases HW with ⟨%W₁, %hW₁, HW⟩
    iapply (wp_stored d i tbl ix _ _ (par (t.val - 1)) (prv t) _ _ _ ((off16_at i t).trans (by rw [hm])) (off17_at t) _ _ _ _ _ O W₁) $$ [HO' HW]
    · isplitl [HO']; · iexact HO'
      isplitl [HW]; · iexact HW
      iexact Hm
    iintro ⟨HOB, HRS, HsO, HW⟩
    iapply (le_wp_ret _ _)
    isplitr; · ipureintro; exact nextWords_eq i t
    isplitl [HI]; · iexact HI
    isplitl [HIB]; · iexact HIB
    isplitl [HIS]; · iexact HIS
    isplitl [HsI]; · iexact HsI
    isplitl [HFO]; · iexact HFO
    isplitl [HOB HRS HsO]
    · iapply (Entails.of_eq (show tripO' (F := F) d i tbl ix t = iprop(OB d i (gathered tbl ix) (prv t) ∗ RSlot d i (par (t.val - 1)) ∗ SemO d i (par (t.val - 1))) from if_neg ht).symm)
      isplitl [HOB]; · iexact HOB
      isplitl [HRS]; · iexact HRS
      iexact HsO
    isplitl [HT]; · iexact HT
    isplitl [HG]; · iexact HG
    iexists _; isplitr
    swap; · iexact HW
    ipureintro; exact Owing_insert W _ hW₁ _

end

end Cert.Proof

end
-- ==== Proof.Tile.lean ====
/- The tile's whole pipeline: what it holds between trips, written out trip by trip, and its run from the tile's blocks
   of the list and of the result to the gathered rows. -/
module

public import proofs.«01_k».proof.Proof.Trip

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section

variable (d : Dev nD) (i : grid1.Coords)
variable (tbl : S8192x128.Idx → Elt F .f32) (ix : S1x16384.Idx → Elt F .i32) (g : S16384x128.Idx → Elt F .f32)
variable (q : PosShare TreeShare) (O : CellTallies nD τ sig (HIx 1))

/-- What the tile holds of its slots and blocks before trip 0. -/
def shape0 : sProp (MM F) :=
  iprop(FI d i ix 0 0 ∗ ISlot d i 1 ∗ SemI d i 1 ∗ IB d i ix 1 ∗ IB d i ix 2 ∗ IB d i ix 3 ∗ RSlot d i 0 ∗ SemO d i 0 ∗ RSlot d i 1 ∗ SemO d i 1 ∗ OB d i g 0 ∗ OB d i g 1 ∗ OB d i g 2 ∗ OB d i g 3)

/-- What the tile holds of its slots and blocks before trip 1. -/
def shape1 : sProp (MM F) :=
  iprop(FI d i ix 1 1 ∗ ISlot d i 0 ∗ SemI d i 0 ∗ IB d i ix 0 ∗ IB d i ix 2 ∗ IB d i ix 3 ∗ FO d i tbl ix 0 0 ∗ RSlot d i 1 ∗ SemO d i 1 ∗ OB d i g 1 ∗ OB d i g 2 ∗ OB d i g 3)

/-- What the tile holds of its slots and blocks before trip 2. -/
def shape2 : sProp (MM F) :=
  iprop(FI d i ix 0 2 ∗ ISlot d i 1 ∗ SemI d i 1 ∗ IB d i ix 0 ∗ IB d i ix 1 ∗ IB d i ix 3 ∗ FO d i tbl ix 1 1 ∗ RSlot d i 0 ∗ SemO d i 0 ∗ OB d i (gathered tbl ix) 0 ∗ OB d i g 2 ∗ OB d i g 3)

/-- What the tile holds of its slots and blocks before trip 3. -/
def shape3 : sProp (MM F) :=
  iprop(FI d i ix 1 3 ∗ ISlot d i 0 ∗ SemI d i 0 ∗ IB d i ix 0 ∗ IB d i ix 1 ∗ IB d i ix 2 ∗ FO d i tbl ix 0 2 ∗ RSlot d i 1 ∗ SemO d i 1 ∗ OB d i (gathered tbl ix) 0 ∗ OB d i (gathered tbl ix) 1 ∗ OB d i g 3)

/-- What it holds of them after the last trip. -/
def shape4 : sProp (MM F) :=
  iprop(ISlot d i 0 ∗ SemI d i 0 ∗ ISlot d i 1 ∗ SemI d i 1 ∗ IB d i ix 0 ∗ IB d i ix 1 ∗ IB d i ix 2 ∗ IB d i ix 3 ∗ FO d i tbl ix 1 3 ∗ RSlot d i 0 ∗ SemO d i 0 ∗ OB d i (gathered tbl ix) 0 ∗ OB d i (gathered tbl ix) 1 ∗ OB d i (gathered tbl ix) 2)

/-- What the tile holds of its slots and blocks before trip `k`. -/
def shape : ℕ → sProp (MM F)
  | 0 => shape0 d i ix g
  | 1 => shape1 d i tbl ix g
  | 2 => shape2 d i tbl ix g
  | 3 => shape3 d i tbl ix g
  | _ => shape4 d i tbl ix

theorem trip0 (hix : ∀ y, (ix y).toNat < 8192) (W : Waits sig (HIx 1)) :
    iprop(FI d i ix 0 0 ∗ iprop(ISlot d i 1 ∗ IB d i ix 1 ∗ SemI d i 1) ∗ RSlot d i 0 ∗ OB d i g 0 ∗ SemO d i 0 ∗ emp ∗ TB d i tbl q ∗ SemG d i ∗ Transfers.MayWaits (thr d i) (default : HIx 1) O ∗ Owing d i O W)
      ⊢ WP d i (fun acc => iprop(⌜acc = carried 1⌝ ∗ FI d i ix 1 1 ∗ IB d i ix 0 ∗ ISlot d i 0 ∗ SemI d i 0 ∗ FO d i tbl ix 0 0 ∗ emp ∗ TB d i tbl q ∗ SemG d i ∗ Owing d i O W)) (tripBody (F := F) i 0) :=
  trip_wp d i tbl ix g q O 0 hix W

theorem step0 (hix : ∀ y, (ix y).toNat < 8192) (W : Waits sig (HIx 1)) :
    iprop(shape0 d i ix g ∗ TB d i tbl q ∗ SemG d i ∗ Transfers.MayWaits (thr d i) (default : HIx 1) O ∗ Owing d i O W)
      ⊢ WP d i (fun acc => iprop(⌜acc = carried 1⌝ ∗ shape1 d i tbl ix g ∗ TB d i tbl q ∗ SemG d i ∗ Owing d i O W)) (tripBody (F := F) i 0) := by
  unfold shape0 shape1
  iintro ⟨⟨HF00, HI1, HJ1, HB1, HB2, HB3, HR0, HP0, HR1, HP1, HO0g, HO1g, HO2g, HO3g⟩, HT, HG, #Hm, HW⟩
  iapply (wp_wand frame _ _) $$ [HF00 HI1 HB1 HJ1 HR0 HO0g HP0 HT HG HW]
  · iapply (trip0 d i tbl ix g q O hix W)
    isplitl [HF00]; · iexact HF00
    isplitl [HI1 HB1 HJ1]
    · isplitl [HI1]; · iexact HI1
      isplitl [HB1]; · iexact HB1
      iexact HJ1
    isplitl [HR0]; · iexact HR0
    isplitl [HO0g]; · iexact HO0g
    isplitl [HP0]; · iexact HP0
    isplitr; · iempintro
    isplitl [HT]; · iexact HT
    isplitl [HG]; · iexact HG
    isplitr; · iexact Hm
    iexact HW
  iintro %acc ⟨%hacc, HF11, HB0, HI0, HJ0, HG00, -, HT, HG, HW⟩
  isplitr; · ipureintro; exact hacc
  isplitl [HF11 HI0 HJ0 HB0 HB2 HB3 HG00 HR1 HP1 HO1g HO2g HO3g]
  · isplitl [HF11]; · iexact HF11
    isplitl [HI0]; · iexact HI0
    isplitl [HJ0]; · iexact HJ0
    isplitl [HB0]; · iexact HB0
    isplitl [HB2]; · iexact HB2
    isplitl [HB3]; · iexact HB3
    isplitl [HG00]; · iexact HG00
    isplitl [HR1]; · iexact HR1
    isplitl [HP1]; · iexact HP1
    isplitl [HO1g]; · iexact HO1g
    isplitl [HO2g]; · iexact HO2g
    iexact HO3g
  isplitl [HT]; · iexact HT
  isplitl [HG]; · iexact HG
  iexact HW

theorem trip1 (hix : ∀ y, (ix y).toNat < 8192) (W : Waits sig (HIx 1)) :
    iprop(FI d i ix 1 1 ∗ iprop(ISlot d i 0 ∗ IB d i ix 2 ∗ SemI d i 0) ∗ RSlot d i 1 ∗ OB d i g 1 ∗ SemO d i 1 ∗ FO d i tbl ix 0 0 ∗ TB d i tbl q ∗ SemG d i ∗ Transfers.MayWaits (thr d i) (default : HIx 1) O ∗ Owing d i O W)
      ⊢ WP d i (fun acc => iprop(⌜acc = carried 2⌝ ∗ FI d i ix 0 2 ∗ IB d i ix 1 ∗ ISlot d i 1 ∗ SemI d i 1 ∗ FO d i tbl ix 1 1 ∗ iprop(OB d i (gathered tbl ix) 0 ∗ RSlot d i 0 ∗ SemO d i 0) ∗ TB d i tbl q ∗ SemG d i ∗ Owing d i O W)) (tripBody (F := F) i 1) :=
  trip_wp d i tbl ix g q O 1 hix W

theorem step1 (hix : ∀ y, (ix y).toNat < 8192) (W : Waits sig (HIx 1)) :
    iprop(shape1 d i tbl ix g ∗ TB d i tbl q ∗ SemG d i ∗ Transfers.MayWaits (thr d i) (default : HIx 1) O ∗ Owing d i O W)
      ⊢ WP d i (fun acc => iprop(⌜acc = carried 2⌝ ∗ shape2 d i tbl ix g ∗ TB d i tbl q ∗ SemG d i ∗ Owing d i O W)) (tripBody (F := F) i 1) := by
  unfold shape1 shape2
  iintro ⟨⟨HF11, HI0, HJ0, HB0, HB2, HB3, HG00, HR1, HP1, HO1g, HO2g, HO3g⟩, HT, HG, #Hm, HW⟩
  iapply (wp_wand frame _ _) $$ [HF11 HI0 HB2 HJ0 HR1 HO1g HP1 HG00 HT HG HW]
  · iapply (trip1 d i tbl ix g q O hix W)
    isplitl [HF11]; · iexact HF11
    isplitl [HI0 HB2 HJ0]
    · isplitl [HI0]; · iexact HI0
      isplitl [HB2]; · iexact HB2
      iexact HJ0
    isplitl [HR1]; · iexact HR1
    isplitl [HO1g]; · iexact HO1g
    isplitl [HP1]; · iexact HP1
    isplitl [HG00]; · iexact HG00
    isplitl [HT]; · iexact HT
    isplitl [HG]; · iexact HG
    isplitr; · iexact Hm
    iexact HW
  iintro %acc ⟨%hacc, HF02, HB1, HI1, HJ1, HG11, ⟨HO0G, HR0, HP0⟩, HT, HG, HW⟩
  isplitr; · ipureintro; exact hacc
  isplitl [HF02 HI1 HJ1 HB0 HB1 HB3 HG11 HR0 HP0 HO0G HO2g HO3g]
  · isplitl [HF02]; · iexact HF02
    isplitl [HI1]; · iexact HI1
    isplitl [HJ1]; · iexact HJ1
    isplitl [HB0]; · iexact HB0
    isplitl [HB1]; · iexact HB1
    isplitl [HB3]; · iexact HB3
    isplitl [HG11]; · iexact HG11
    isplitl [HR0]; · iexact HR0
    isplitl [HP0]; · iexact HP0
    isplitl [HO0G]; · iexact HO0G
    isplitl [HO2g]; · iexact HO2g
    iexact HO3g
  isplitl [HT]; · iexact HT
  isplitl [HG]; · iexact HG
  iexact HW

theorem trip2 (hix : ∀ y, (ix y).toNat < 8192) (W : Waits sig (HIx 1)) :
    iprop(FI d i ix 0 2 ∗ iprop(ISlot d i 1 ∗ IB d i ix 3 ∗ SemI d i 1) ∗ RSlot d i 0 ∗ OB d i g 2 ∗ SemO d i 0 ∗ FO d i tbl ix 1 1 ∗ TB d i tbl q ∗ SemG d i ∗ Transfers.MayWaits (thr d i) (default : HIx 1) O ∗ Owing d i O W)
      ⊢ WP d i (fun acc => iprop(⌜acc = carried 3⌝ ∗ FI d i ix 1 3 ∗ IB d i ix 2 ∗ ISlot d i 0 ∗ SemI d i 0 ∗ FO d i tbl ix 0 2 ∗ iprop(OB d i (gathered tbl ix) 1 ∗ RSlot d i 1 ∗ SemO d i 1) ∗ TB d i tbl q ∗ SemG d i ∗ Owing d i O W)) (tripBody (F := F) i 2) :=
  trip_wp d i tbl ix g q O 2 hix W

theorem step2 (hix : ∀ y, (ix y).toNat < 8192) (W : Waits sig (HIx 1)) :
    iprop(shape2 d i tbl ix g ∗ TB d i tbl q ∗ SemG d i ∗ Transfers.MayWaits (thr d i) (default : HIx 1) O ∗ Owing d i O W)
      ⊢ WP d i (fun acc => iprop(⌜acc = carried 3⌝ ∗ shape3 d i tbl ix g ∗ TB d i tbl q ∗ SemG d i ∗ Owing d i O W)) (tripBody (F := F) i 2) := by
  unfold shape2 shape3
  iintro ⟨⟨HF02, HI1, HJ1, HB0, HB1, HB3, HG11, HR0, HP0, HO0G, HO2g, HO3g⟩, HT, HG, #Hm, HW⟩
  iapply (wp_wand frame _ _) $$ [HF02 HI1 HB3 HJ1 HR0 HO2g HP0 HG11 HT HG HW]
  · iapply (trip2 d i tbl ix g q O hix W)
    isplitl [HF02]; · iexact HF02
    isplitl [HI1 HB3 HJ1]
    · isplitl [HI1]; · iexact HI1
      isplitl [HB3]; · iexact HB3
      iexact HJ1
    isplitl [HR0]; · iexact HR0
    isplitl [HO2g]; · iexact HO2g
    isplitl [HP0]; · iexact HP0
    isplitl [HG11]; · iexact HG11
    isplitl [HT]; · iexact HT
    isplitl [HG]; · iexact HG
    isplitr; · iexact Hm
    iexact HW
  iintro %acc ⟨%hacc, HF13, HB2, HI0, HJ0, HG02, ⟨HO1G, HR1, HP1⟩, HT, HG, HW⟩
  isplitr; · ipureintro; exact hacc
  isplitl [HF13 HI0 HJ0 HB0 HB1 HB2 HG02 HR1 HP1 HO0G HO1G HO3g]
  · isplitl [HF13]; · iexact HF13
    isplitl [HI0]; · iexact HI0
    isplitl [HJ0]; · iexact HJ0
    isplitl [HB0]; · iexact HB0
    isplitl [HB1]; · iexact HB1
    isplitl [HB2]; · iexact HB2
    isplitl [HG02]; · iexact HG02
    isplitl [HR1]; · iexact HR1
    isplitl [HP1]; · iexact HP1
    isplitl [HO0G]; · iexact HO0G
    isplitl [HO1G]; · iexact HO1G
    iexact HO3g
  isplitl [HT]; · iexact HT
  isplitl [HG]; · iexact HG
  iexact HW

theorem trip3 (hix : ∀ y, (ix y).toNat < 8192) (W : Waits sig (HIx 1)) :
    iprop(FI d i ix 1 3 ∗ emp ∗ RSlot d i 1 ∗ OB d i g 3 ∗ SemO d i 1 ∗ FO d i tbl ix 0 2 ∗ TB d i tbl q ∗ SemG d i ∗ Transfers.MayWaits (thr d i) (default : HIx 1) O ∗ Owing d i O W)
      ⊢ WP d i (fun acc => iprop(⌜acc = carried 4⌝ ∗ emp ∗ IB d i ix 3 ∗ ISlot d i 1 ∗ SemI d i 1 ∗ FO d i tbl ix 1 3 ∗ iprop(OB d i (gathered tbl ix) 2 ∗ RSlot d i 0 ∗ SemO d i 0) ∗ TB d i tbl q ∗ SemG d i ∗ Owing d i O W)) (tripBody (F := F) i 3) :=
  trip_wp d i tbl ix g q O 3 hix W

theorem step3 (hix : ∀ y, (ix y).toNat < 8192) (W : Waits sig (HIx 1)) :
    iprop(shape3 d i tbl ix g ∗ TB d i tbl q ∗ SemG d i ∗ Transfers.MayWaits (thr d i) (default : HIx 1) O ∗ Owing d i O W)
      ⊢ WP d i (fun acc => iprop(⌜acc = carried 4⌝ ∗ shape4 d i tbl ix ∗ TB d i tbl q ∗ SemG d i ∗ Owing d i O W)) (tripBody (F := F) i 3) := by
  unfold shape3 shape4
  iintro ⟨⟨HF13, HI0, HJ0, HB0, HB1, HB2, HG02, HR1, HP1, HO0G, HO1G, HO3g⟩, HT, HG, #Hm, HW⟩
  iapply (wp_wand frame _ _) $$ [HF13 HR1 HO3g HP1 HG02 HT HG HW]
  · iapply (trip3 d i tbl ix g q O hix W)
    isplitl [HF13]; · iexact HF13
    isplitr; · iempintro
    isplitl [HR1]; · iexact HR1
    isplitl [HO3g]; · iexact HO3g
    isplitl [HP1]; · iexact HP1
    isplitl [HG02]; · iexact HG02
    isplitl [HT]; · iexact HT
    isplitl [HG]; · iexact HG
    isplitr; · iexact Hm
    iexact HW
  iintro %acc ⟨%hacc, -, HB3, HI1, HJ1, HG13, ⟨HO2G, HR0, HP0⟩, HT, HG, HW⟩
  isplitr; · ipureintro; exact hacc
  isplitl [HI0 HJ0 HI1 HJ1 HB0 HB1 HB2 HB3 HG13 HR0 HP0 HO0G HO1G HO2G]
  · isplitl [HI0]; · iexact HI0
    isplitl [HJ0]; · iexact HJ0
    isplitl [HI1]; · iexact HI1
    isplitl [HJ1]; · iexact HJ1
    isplitl [HB0]; · iexact HB0
    isplitl [HB1]; · iexact HB1
    isplitl [HB2]; · iexact HB2
    isplitl [HB3]; · iexact HB3
    isplitl [HG13]; · iexact HG13
    isplitl [HR0]; · iexact HR0
    isplitl [HP0]; · iexact HP0
    isplitl [HO0G]; · iexact HO0G
    isplitl [HO1G]; · iexact HO1G
    iexact HO2G
  isplitl [HT]; · iexact HT
  isplitl [HG]; · iexact HG
  iexact HW

/-- What the loop keeps: the carried words and what the tile holds. -/
def Inv (W : Waits sig (HIx 1)) (k : ℕ) (acc : BitVec 32 × BitVec 32 × BitVec 32 × BitVec 32 × BitVec 32) : sProp (MM F) :=
  iprop(⌜acc = carried k⌝ ∗ shape d i tbl ix g k ∗ TB d i tbl q ∗ SemG d i ∗ Transfers.MayWaits (thr d i) (default : HIx 1) O ∗ Owing d i O W)

/-- One trip keeps it. -/
theorem Inv_step (hix : ∀ y, (ix y).toNat < 8192) (W : Waits sig (HIx 1)) (k : Fin k1_t1_loop.trips) (acc) :
    Inv d i tbl ix g q O W k.val acc
      ⊢ WP d i (Inv d i tbl ix g q O W (k.val + 1)) (k1_t1_body (F := F) i (Memref.whole main_v10_scv) (Memref.isWhole_whole _) (Memref.whole main_v11_scv) (Memref.isWhole_whole _)
          (Memref.whole main_v12_scv) (Memref.isWhole_whole _) (Memref.whole cc1_scoped0) (Memref.isWhole_whole _) cc1_scoped1
          (Memref.whole cc1_scoped2) (Memref.isWhole_whole _) cc1_scoped3 cc1_scoped4 (base i) k acc) := by
  obtain ⟨t, rfl⟩ : ∃ t, k = trip t := ⟨k.cast trips_four, rfl⟩
  have key : iprop(shape d i tbl ix g t.val ∗ TB d i tbl q ∗ SemG d i ∗ Transfers.MayWaits (thr d i) (default : HIx 1) O ∗ Owing d i O W)
      ⊢ WP d i (fun acc => iprop(⌜acc = carried (t.val + 1)⌝ ∗ shape d i tbl ix g (t.val + 1) ∗ TB d i tbl q ∗ SemG d i ∗ Owing d i O W)) (tripBody (F := F) i t) := by
    match t with
    | 0 => exact step0 d i tbl ix g q O hix W
    | 1 => exact step1 d i tbl ix g q O hix W
    | 2 => exact step2 d i tbl ix g q O hix W
    | 3 => exact step3 d i tbl ix g q O hix W
  unfold Inv
  iintro ⟨%hacc, HS, HT, HG, #Hm, HW⟩
  subst hacc
  iapply (wp_wand frame _ _) $$ [HS HT HG HW]
  · iapply key
    isplitl [HS]; · iexact HS
    isplitl [HT]; · iexact HT
    isplitl [HG]; · iexact HG
    isplitr; · iexact Hm
    iexact HW
  iintro %acc ⟨%hacc, HS, HT, HG, HW⟩
  isplitr; · ipureintro; exact hacc
  isplitl [HS]; · iexact HS
  isplitl [HT]; · iexact HT
  isplitl [HG]; · iexact HG
  isplitr; · iexact Hm
  iexact HW

/-- The SparseCore body on the kernel's own memory. -/
abbrev tileProg :=
  cc1_body (F := F) i (Memref.whole main_v10_scv) (Memref.isWhole_whole _) (Memref.whole main_v11_scv) (Memref.isWhole_whole _)
    (Memref.whole main_v12_scv) (Memref.isWhole_whole _) (Memref.whole cc1_scoped0) (Memref.isWhole_whole _) cc1_scoped1
    (Memref.whole cc1_scoped2) (Memref.isWhole_whole _) cc1_scoped3 cc1_scoped4

/-- The tile's own memory and semaphores. -/
def Own : sProp (MM F) :=
  iprop(ISlot d i 0 ∗ ISlot d i 1 ∗ RSlot d i 0 ∗ RSlot d i 1 ∗ SemI d i 0 ∗ SemI d i 1 ∗ SemO d i 0 ∗ SemO d i 1 ∗ SemG d i)

set_option maxHeartbeats 4000000 in
set_option maxRecDepth 8192 in
/-- The tile's run: its four blocks of the result end at the gathered rows. -/
theorem tile_wp (hix : ∀ y, (ix y).toNat < 8192) (W : Waits sig (HIx 1)) :
    iprop((IB d i ix 0 ∗ IB d i ix 1 ∗ IB d i ix 2 ∗ IB d i ix 3) ∗ (OB d i g 0 ∗ OB d i g 1 ∗ OB d i g 2 ∗ OB d i g 3) ∗ TB d i tbl q
        ∗ Own d i ∗ Transfers.MayWaits (thr d i) (default : HIx 1) O ∗ owes (thr d i) O W)
      ⊢ WP d i (fun _ => iprop((IB d i ix 0 ∗ IB d i ix 1 ∗ IB d i ix 2 ∗ IB d i ix 3)
          ∗ (OB d i (gathered tbl ix) 0 ∗ OB d i (gathered tbl ix) 1 ∗ OB d i (gathered tbl ix) 2 ∗ OB d i (gathered tbl ix) 3) ∗ TB d i tbl q
          ∗ Own d i ∗ Owing d i O W)) (tileProg (F := F) i) := by
  unfold tileProg
  simp only [cc1_body_eq_skeleton]
  unfold cc1_body_skel
  simp only [k1_part3_eq_skeleton, k1_part4_eq_skeleton]
  unfold k1_part3_skel k1_part4_skel
  simp only [Prog.lift, Prog.bind_op, Prog.bind_ret, Prog.pure_eq_ret, Prog.bind_assoc]
  unfold Own
  iintro ⟨⟨HB0, HB1, HB2, HB3⟩, ⟨HO0, HO1, HO2, HO3⟩, HT, ⟨HI0, HI1, HR0, HR1, HJ0, HJ1, HP0, HP1, HG⟩, #Hm, HW⟩
  iapply (wp_fetch d i ix _ _ 0 0 _ _ _ k1_off1_eq ((k1_off2_eq i).trans (by
    funext a; match a with
      | 0 => rfl
      | 1 => show _ = 128 * (4 * (i 1).val + 64 * (i 0).val + 0)
             show 512 * (i 1).val + 8192 * (i 0).val = _
             omega)) k1_off3_eq _ _ _ _ _ _) $$ [HI0 HB0 HJ0]
  · isplitl [HI0]; · iexact HI0
    isplitl [HB0]; · iexact HB0
    iexact HJ0
  iintro HF
  iapply (Scf.wp_for_bind frame _ _ _ _ _ _ _ _ (Inv d i tbl ix g q O W) (Inv_step d i tbl ix g q O hix W)) $$ [HF HI1 HJ1 HB1 HB2 HB3 HR0 HR1 HP0 HP1 HO0 HO1 HO2 HO3 HT HG HW]
  · unfold Inv Owing
    rw [show shape d i tbl ix g 0 = shape0 d i ix g from rfl]
    unfold shape0
    isplitr; · ipureintro; rfl
    isplitl [HF HI1 HJ1 HB1 HB2 HB3 HR0 HR1 HP0 HP1 HO0 HO1 HO2 HO3]
    · isplitl [HF]; · iexact HF
      isplitl [HI1]; · iexact HI1
      isplitl [HJ1]; · iexact HJ1
      isplitl [HB1]; · iexact HB1
      isplitl [HB2]; · iexact HB2
      isplitl [HB3]; · iexact HB3
      isplitl [HR0]; · iexact HR0
      isplitl [HP0]; · iexact HP0
      isplitl [HR1]; · iexact HR1
      isplitl [HP1]; · iexact HP1
      isplitl [HO0]; · iexact HO0
      isplitl [HO1]; · iexact HO1
      isplitl [HO2]; · iexact HO2
      iexact HO3
    isplitl [HT]; · iexact HT
    isplitl [HG]; · iexact HG
    isplitr; · iexact Hm
    iexists W
    isplitr; · ipureintro; exact fun p hp => .inl hp
    iexact HW
  iintro %acc HInv
  rw [show Scf.trips k1_t1_loop.lb k1_t1_loop.ub k1_t1_loop.st = 4 from trips_four]
  unfold Inv
  rw [show shape d i tbl ix g 4 = shape4 d i tbl ix from rfl]
  unfold shape4
  icases HInv with ⟨%hacc, ⟨HI0, HJ0, HI1, HJ1, HB0, HB1, HB2, HB3, HF, HR0, HP0, HO0, HO1, HO2⟩, HT, HG, -, HW⟩
  subst hacc
  simp only [carried]
  iapply (wp_assume 𝒱₀ (thr d i) none Set.univ (chk5_end i))
  iapply (wp_assume 𝒱₀ (thr d i) none Set.univ chk4_end)
  unfold Owing
  icases HW with ⟨%W₁, %hW₁, HW⟩
  iapply (wp_stored d i tbl ix _ _ 1 3 _ _ _ (off19_end i) off20_end _ _ _ _ _ O W₁) $$ [HF HW]
  · isplitl [HF]; · iexact HF
    isplitl [HW]; · iexact HW
    iexact Hm
  iintro ⟨HO3, HR1, HP1, HW⟩
  iapply (le_wp_ret _ _)
  isplitl [HB0 HB1 HB2 HB3]
  · isplitl [HB0]; · iexact HB0
    isplitl [HB1]; · iexact HB1
    isplitl [HB2]; · iexact HB2
    iexact HB3
  isplitl [HO0 HO1 HO2 HO3]
  · isplitl [HO0]; · iexact HO0
    isplitl [HO1]; · iexact HO1
    isplitl [HO2]; · iexact HO2
    iexact HO3
  isplitl [HT]; · iexact HT
  isplitl [HI0 HI1 HR0 HR1 HJ0 HJ1 HP0 HP1 HG]
  · isplitl [HI0]; · iexact HI0
    isplitl [HI1]; · iexact HI1
    isplitl [HR0]; · iexact HR0
    isplitl [HR1]; · iexact HR1
    isplitl [HJ0]; · iexact HJ0
    isplitl [HJ1]; · iexact HJ1
    isplitl [HP0]; · iexact HP0
    isplitl [HP1]; · iexact HP1
    iexact HG
  iexists _; isplitr
  swap; · iexact HW
  ipureintro; exact Owing_insert W _ hW₁ _

end

end Cert.Proof

end
-- ==== Proof.Blocks.lean ====
/- How the index list, the gathered array and the table are dealt to the 2 × 16 tiles and come back together. -/
module

public import proofs.«01_k».proof.Proof.Tile

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- Tile `s` of SparseCore `c`. -/
def tileAt (c : Fin 2) (s : Fin 16) : grid1.Coords :=
  fun | 0 => c | 1 => s | ⟨_ + 2, h⟩ => absurd h (Nat.not_lt.2 (Nat.le_add_left _ _))

theorem blk0_tileAt (c : Fin 2) (s : Fin 16) : blk0 (tileAt c s) = 4 * s.val + 64 * c.val := rfl

/-- A block's name: its SparseCore, its tile, and which of the tile's four blocks it is. -/
abbrev Blk : Type := (Fin 2 × Fin 16) × Fin 4
/-- The block's place in the array, counted in blocks. -/
def place (p : Blk) : ℕ := 4 * p.1.2.val + 64 * p.1.1.val + p.2.val

theorem place_inj {p p' : Blk} (h : place p = place p') : p = p' := by
  obtain ⟨⟨c, s⟩, t⟩ := p
  obtain ⟨⟨c', s'⟩, t'⟩ := p'
  simp only [place] at h
  have e1 : t = t' := Fin.ext (by omega)
  have e2 : s = s' := Fin.ext (by omega)
  have e3 : c = c' := Fin.ext (by omega)
  rw [e1, e2, e3]

theorem place_surj (n : ℕ) (hn : n < 128) : ∃ p, place p = n :=
  ⟨((⟨n / 64, by omega⟩, ⟨n / 4 % 16, by omega⟩), ⟨n % 4, by omega⟩), by simp only [place]; omega⟩

/-- The elements of the list, and of the gathered array, that a block holds. -/
def iSet (p : Blk) : Finset S1x16384.Idx := (iBlk (tileAt p.1.1 p.1.2) p.2).view.set
def oSet (p : Blk) : Finset S16384x128.Idx := (oBlk (tileAt p.1.1 p.1.2) p.2).view.set

theorem mem_iSet (p : Blk) (x : S1x16384.Idx) : x ∈ iSet p ↔ (x 1).val / 128 = place p := by
  have e : iSet p = (Rect.unit (s := S1x16384) ![0, 128 * (blk0 (tileAt p.1.1 p.1.2) + p.2.val)] S1x128.size (iBlk_inb _ p.2)).set := by
    show ((View.whole (main_v11_scv : Ref sig .scVector)).slice _).set = _
    rw [View.set_slice]; exact Finset.map_refl
  rw [e, Rect.mem_set_unit, blk0_tileAt]
  have h0 : (x 0).val < 1 := (x 0).isLt
  constructor
  · intro h
    have h1 := h 1
    simp only [S1x128, Matrix.cons_val_one, Matrix.cons_val_zero] at h1
    simp only [place]
    omega
  · intro h a
    simp only [place] at h
    match a with
    | 0 => exact ⟨Nat.zero_le _, by show (x 0).val < 0 + 1; omega⟩
    | 1 => exact ⟨by show 128 * (4 * p.1.2.val + 64 * p.1.1.val + p.2.val) ≤ (x 1).val; omega, by show (x 1).val < 128 * (4 * p.1.2.val + 64 * p.1.1.val + p.2.val) + 128; omega⟩

theorem mem_oSet (p : Blk) (x : S16384x128.Idx) : x ∈ oSet p ↔ (x 0).val / 128 = place p := by
  have e : oSet p = (Rect.unit (s := S16384x128) ![128 * (blk0 (tileAt p.1.1 p.1.2) + p.2.val), 0] S128x128.size (oBlk_inb _ p.2)).set := by
    show ((View.whole (main_v12_scv : Ref sig .scVector)).slice _).set = _
    rw [View.set_slice]; exact Finset.map_refl
  rw [e, Rect.mem_set_unit, blk0_tileAt]
  have h1 : (x 1).val < 128 := (x 1).isLt
  constructor
  · intro h
    have h0 := h 0
    simp only [S128x128, Matrix.cons_val_zero] at h0
    simp only [place]
    omega
  · intro h a
    simp only [place] at h
    match a with
    | 0 => exact ⟨by show 128 * (4 * p.1.2.val + 64 * p.1.1.val + p.2.val) ≤ (x 0).val; omega, by show (x 0).val < 128 * (4 * p.1.2.val + 64 * p.1.1.val + p.2.val) + 128; omega⟩
    | 1 => exact ⟨Nat.zero_le _, by show (x 1).val < 0 + 128; omega⟩

theorem iSet_disjoint : ∀ p ∈ (Finset.univ : Finset Blk), ∀ p' ∈ (Finset.univ : Finset Blk), p ≠ p' → Disjoint (iSet p) (iSet p') :=
  fun p _ p' _ h => Finset.disjoint_left.mpr fun x hx hx' => h (place_inj (((mem_iSet p x).mp hx).symm.trans ((mem_iSet p' x).mp hx')))
theorem oSet_disjoint : ∀ p ∈ (Finset.univ : Finset Blk), ∀ p' ∈ (Finset.univ : Finset Blk), p ≠ p' → Disjoint (oSet p) (oSet p') :=
  fun p _ p' _ h => Finset.disjoint_left.mpr fun x hx hx' => h (place_inj (((mem_oSet p x).mp hx).symm.trans ((mem_oSet p' x).mp hx')))

theorem iSet_cover : (Finset.univ : Finset Blk).biUnion iSet = Finset.univ := Finset.eq_univ_iff_forall.mpr fun x => by
  have h : (x 1).val < 16384 := (x 1).isLt
  obtain ⟨p, hp⟩ := place_surj ((x 1).val / 128) (by omega)
  exact Finset.mem_biUnion.mpr ⟨p, Finset.mem_univ _, (mem_iSet p x).mpr hp.symm⟩
theorem oSet_cover : (Finset.univ : Finset Blk).biUnion oSet = Finset.univ := Finset.eq_univ_iff_forall.mpr fun x => by
  have h : (x 0).val < 16384 := (x 0).isLt
  obtain ⟨p, hp⟩ := place_surj ((x 0).val / 128) (by omega)
  exact Finset.mem_biUnion.mpr ⟨p, Finset.mem_univ _, (mem_oSet p x).mpr hp.symm⟩

/-- Four of a thing, one after the other. -/
theorem bigSep_four (Φ : Fin 4 → sProp (MM F)) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]; rfl

/-- The read share of the table that tile `s` of SparseCore `c` gets. -/
def shareAt (c : Fin 2) (s : Fin 16) : PosShare TreeShare := Transfers.shareTok fullShare 32 (finProdFinEquiv (c, s))
/-- What is kept of the table's share. -/
def shareKept : PosShare TreeShare := Transfers.shareDrop fullShare 32

section

variable (d : Dev nD) (tbl : S8192x128.Idx → Elt F .f32) (ix : S1x16384.Idx → Elt F .i32) (f : S16384x128.Idx → Elt F .f32)

/-- The list is its blocks, tile by tile. -/
theorem list_split : (iLoc d ↦{fullShare} ix : sProp (MM F))
    = bigSep Finset.univ fun c : Fin 2 => bigSep Finset.univ fun s : Fin 16 =>
        iprop(IB d (tileAt c s) ix 0 ∗ IB d (tileAt c s) ix 1 ∗ IB d (tileAt c s) ix 2 ∗ IB d (tileAt c s) ix 3) := by
  have h := pointsTo_biUnion (nD := nD) (τ := τ) (sig := sig) (Val := Elt F) (Ix := HIx 1) (Name := ℕ) (U := UU) (Lvl := ℕ) (q := fullShare) (f := ix) Finset.univ (ℓ := iLoc d) iSet iSet_disjoint
  rw [iSet_cover] at h
  refine h.trans ?_
  rw [bigSep_univ_prod, bigSep_univ_prod]
  exact bigSep_congr fun c _ => bigSep_congr fun s _ => bigSep_four fun t => IB d (tileAt c s) ix t

/-- The gathered array is its blocks, tile by tile. -/
theorem rows_split : (oLoc d ↦{fullShare} f : sProp (MM F))
    = bigSep Finset.univ fun c : Fin 2 => bigSep Finset.univ fun s : Fin 16 =>
        iprop(OB d (tileAt c s) f 0 ∗ OB d (tileAt c s) f 1 ∗ OB d (tileAt c s) f 2 ∗ OB d (tileAt c s) f 3) := by
  have h := pointsTo_biUnion (nD := nD) (τ := τ) (sig := sig) (Val := Elt F) (Ix := HIx 1) (Name := ℕ) (U := UU) (Lvl := ℕ) (q := fullShare) (f := f) Finset.univ (ℓ := oLoc d) oSet oSet_disjoint
  rw [oSet_cover] at h
  refine h.trans ?_
  rw [bigSep_univ_prod, bigSep_univ_prod]
  exact bigSep_congr fun c _ => bigSep_congr fun s _ => bigSep_four fun t => OB d (tileAt c s) f t

theorem tAll_set : tAll.view.set = Finset.univ := by
  show ((View.whole (main_v10_scv : Ref sig .scVector)).slice _).set = _
  rw [View.set_slice]
  refine (Finset.map_refl).trans ?_
  refine Finset.eq_univ_iff_forall.mpr fun x => Rect.mem_set_unit.mpr fun a => ?_
  match a with
  | 0 => exact ⟨Nat.zero_le _, lt_of_lt_of_le (x 0).isLt (Nat.le_add_left _ _)⟩
  | 1 => exact ⟨Nat.zero_le _, lt_of_lt_of_le (x 1).isLt (Nat.le_add_left _ _)⟩

/-- The table is what is kept of it and a read share for every tile. -/
theorem table_split : (tLoc d ↦{fullShare} tbl : sProp (MM F))
    = iprop((tLoc d ↦{shareKept} tbl) ∗ bigSep Finset.univ fun c : Fin 2 => bigSep Finset.univ fun s : Fin 16 => TB d (tileAt c s) tbl (shareAt c s)) := by
  have h := Transfers.pointsTo_toks (nD := nD) (τ := τ) (sig := sig) (Val := Elt F) (Ix := HIx 1) (Name := ℕ) (U := UU) (Lvl := ℕ) (ℓ := tLoc d) (S := Finset.univ) (f := tbl) fullShare 32
  refine (BI.Entails.antisymm h.1 h.2).trans ?_
  rw [bigSep_univ_equiv (finProdFinEquiv (m := 2) (n := 16)), bigSep_univ_prod]
  refine congrArg (fun z => iprop((tLoc d ↦{shareKept} tbl) ∗ z)) ?_
  refine bigSep_congr fun c _ => bigSep_congr fun s _ => ?_
  unfold TB
  rw [tAll_set]
  rfl

end

end Cert.Proof

end
-- ==== Proof.Scratch.lean ====
/- A tile's own memory and semaphores: the two halves of each scratch buffer are its slots. -/
module

public import proofs.«01_k».proof.Proof.Tile

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore.Cfg (ownCells ownRefs mem_ownCells ownSems0 ownBufs)

variable {F : FTy → Type}

theorem iSl_mem (s : Fin 2) (x : S2x1x128.Idx) : x ∈ (iSl s).view.set ↔ x 0 = s := by
  have e : (iSl s).view.set = (Rect.unit (s := S2x1x128) ![s.val, 0, 0] S1x1x128.size (iSl_inb s)).set := by
    show (((View.whole (cc1_scoped0 : Ref sig .scVector)).slice (Rect.unit (s := S2x1x128) ![s.val, 0, 0] S1x1x128.size (iSl_inb s))).reshape S1x128 squeezes_S1x1x128_S1x128.numel_eq).set = _
    rw [View.set_reshape, View.set_slice]; exact Finset.map_refl
  rw [e, Rect.mem_set_unit]
  have h1 : (x 1).val < 1 := (x 1).isLt
  have h2 : (x 2).val < 128 := (x 2).isLt
  constructor
  · intro h
    have h0 : s.val ≤ (x 0).val ∧ (x 0).val < s.val + 1 := h 0
    exact Fin.ext (by omega)
  · intro h a
    have h0 : (x 0).val = s.val := congrArg Fin.val h
    match a with
    | 0 => exact ⟨by show s.val ≤ (x 0).val; omega, by show (x 0).val < s.val + 1; omega⟩
    | 1 => exact ⟨Nat.zero_le _, by show (x 1).val < 0 + 1; omega⟩
    | 2 => exact ⟨Nat.zero_le _, by show (x 2).val < 0 + 128; omega⟩

theorem rSl_mem (s : Fin 2) (x : S2x128x128.Idx) : x ∈ (rSl s).view.set ↔ x 0 = s := by
  have e : (rSl s).view.set = (Rect.unit (s := S2x128x128) ![s.val, 0, 0] S1x128x128.size (rSl_inb s)).set := by
    show (((View.whole (cc1_scoped2 : Ref sig .scVector)).slice (Rect.unit (s := S2x128x128) ![s.val, 0, 0] S1x128x128.size (rSl_inb s))).reshape S128x128 squeezes_S1x128x128_S128x128.numel_eq).set = _
    rw [View.set_reshape, View.set_slice]; exact Finset.map_refl
  rw [e, Rect.mem_set_unit]
  have h1 : (x 1).val < 128 := (x 1).isLt
  have h2 : (x 2).val < 128 := (x 2).isLt
  constructor
  · intro h
    have h0 : s.val ≤ (x 0).val ∧ (x 0).val < s.val + 1 := h 0
    exact Fin.ext (by omega)
  · intro h a
    have h0 : (x 0).val = s.val := congrArg Fin.val h
    match a with
    | 0 => exact ⟨by show s.val ≤ (x 0).val; omega, by show (x 0).val < s.val + 1; omega⟩
    | 1 => exact ⟨Nat.zero_le _, by show (x 1).val < 0 + 128; omega⟩
    | 2 => exact ⟨Nat.zero_le _, by show (x 2).val < 0 + 128; omega⟩

theorem iSl_disjoint : Disjoint ((iSl 0).view.set) ((iSl 1).view.set) :=
  Finset.disjoint_left.mpr fun x h h' => absurd (((iSl_mem 0 x).mp h).symm.trans ((iSl_mem 1 x).mp h')) (show (0 : Fin 2) ≠ 1 by decide)
theorem rSl_disjoint : Disjoint ((rSl 0).view.set) ((rSl 1).view.set) :=
  Finset.disjoint_left.mpr fun x h h' => absurd (((rSl_mem 0 x).mp h).symm.trans ((rSl_mem 1 x).mp h')) (show (0 : Fin 2) ≠ 1 by decide)
theorem two_cases (n : Fin 2) : n = 0 ∨ n = 1 := by revert n; decide
theorem iSl_cover : (iSl 0).view.set ∪ (iSl 1).view.set = Finset.univ :=
  Finset.eq_univ_iff_forall.mpr fun x => Finset.mem_union.mpr ((two_cases (x 0)).imp (iSl_mem 0 x).mpr (iSl_mem 1 x).mpr)
theorem rSl_cover : (rSl 0).view.set ∪ (rSl 1).view.set = Finset.univ :=
  Finset.eq_univ_iff_forall.mpr fun x => Finset.mem_union.mpr ((two_cases (x 0)).imp (rSl_mem 0 x).mpr (rSl_mem 1 x).mpr)

section

variable (d : Dev nD) (i : grid1.Coords)

/-- The index scratch, at any contents, is its two slots at any contents; -/
theorem iSlots_split : (iprop(∃ f, (thr d i).loc cc1_scoped0 ↦{fullShare} f) : sProp (MM F)) ⊢ iprop(ISlot d i 0 ∗ ISlot d i 1) := by
  iintro ⟨%f, H⟩
  ihave H' := (Entails.of_eq (show ((thr d i).loc cc1_scoped0 ↦{fullShare} f : sProp (MM F))
    = (thr d i).loc cc1_scoped0 ↦[(iSl 0).view.set ∪ (iSl 1).view.set]{fullShare} f by rw [iSl_cover])) $$ H
  ihave H' := (pointsTo_union (ℓ := (thr d i).loc cc1_scoped0) iSl_disjoint).1 $$ H'
  icases H' with ⟨H0, H1⟩
  unfold ISlot
  isplitl [H0]
  · iexists f; iexact H0
  · iexists f; iexact H1
theorem iSlots_join : iprop(ISlot d i 0 ∗ ISlot d i 1) ⊢ (iprop(∃ f, (thr d i).loc cc1_scoped0 ↦{fullShare} f) : sProp (MM F)) := by
  unfold ISlot
  iintro ⟨⟨%f, H0⟩, ⟨%g, H1⟩⟩
  ihave H := (pointsTo_join (ℓ := (thr d i).loc cc1_scoped0) (f := f) (g := g) (q := fullShare) iSl_disjoint) $$ [H0 H1]
  · isplitl [H0]; · iexact H0
    iexact H1
  iexists _
  iapply (Entails.of_eq (show ((thr d i).loc cc1_scoped0 ↦[(iSl 0).view.set ∪ (iSl 1).view.set]{fullShare} _ : sProp (MM F))
    = (thr d i).loc cc1_scoped0 ↦{fullShare} _ by rw [iSl_cover])) $$ H

/-- The row scratch likewise. -/
theorem rSlots_split : (iprop(∃ f, (thr d i).loc cc1_scoped2 ↦{fullShare} f) : sProp (MM F)) ⊢ iprop(RSlot d i 0 ∗ RSlot d i 1) := by
  iintro ⟨%f, H⟩
  ihave H' := (Entails.of_eq (show ((thr d i).loc cc1_scoped2 ↦{fullShare} f : sProp (MM F))
    = (thr d i).loc cc1_scoped2 ↦[(rSl 0).view.set ∪ (rSl 1).view.set]{fullShare} f by rw [rSl_cover])) $$ H
  ihave H' := (pointsTo_union (ℓ := (thr d i).loc cc1_scoped2) rSl_disjoint).1 $$ H'
  icases H' with ⟨H0, H1⟩
  unfold RSlot
  isplitl [H0]
  · iexists f; iexact H0
  · iexists f; iexact H1
theorem rSlots_join : iprop(RSlot d i 0 ∗ RSlot d i 1) ⊢ (iprop(∃ f, (thr d i).loc cc1_scoped2 ↦{fullShare} f) : sProp (MM F)) := by
  unfold RSlot
  iintro ⟨⟨%f, H0⟩, ⟨%g, H1⟩⟩
  ihave H := (pointsTo_join (ℓ := (thr d i).loc cc1_scoped2) (f := f) (g := g) (q := fullShare) rSl_disjoint) $$ [H0 H1]
  · isplitl [H0]; · iexact H0
    iexact H1
  iexists _
  iapply (Entails.of_eq (show ((thr d i).loc cc1_scoped2 ↦[(rSl 0).view.set ∪ (rSl 1).view.set]{fullShare} _ : sProp (MM F))
    = (thr d i).loc cc1_scoped2 ↦{fullShare} _ by rw [rSl_cover])) $$ H

/-- The five semaphores the body uses. -/
def tileSem : Fin 5 → SemLoc sig
  | 0 => .dma (semI 0) | 1 => .dma (semI 1) | 2 => .dma (semO 0) | 3 => .dma (semO 1) | 4 => .dma semG
theorem tileSem_inj : Function.Injective tileSem := by decide +kernel
theorem tileSem_scoped : ∀ n, (tileSem n).isScoped .scVector = true := by decide +kernel

def tileCell : Fin 5 ↪ GSem nD τ sig := ⟨fun n => (thr d i, tileSem n), fun _ _ h => tileSem_inj (Prod.mk.inj h).2⟩

/-- The tile's semaphores: those five and the rest. -/
theorem sems_split : (ownSems0 (thr d i) : sProp (MM F))
    = iprop((SemI d i 0 ∗ SemI d i 1 ∗ SemO d i 0 ∗ SemO d i 1 ∗ SemG d i)
        ∗ bigSep (ownCells (thr d i) \ Finset.univ.map (tileCell d i)) fun g => semVal g 0) := by
  unfold ownSems0
  have hsub : Finset.univ.map (tileCell d i) ⊆ ownCells (thr d i) := fun g hg => by
    obtain ⟨n, -, rfl⟩ := Finset.mem_map.mp hg
    exact mem_ownCells.mpr ⟨rfl, tileSem_scoped n⟩
  rw [bigSep_sdiff_split hsub, bigSep_map]
  refine congrArg (fun z => iprop(z ∗ bigSep (ownCells (thr d i) \ Finset.univ.map (tileCell d i)) fun g => semVal g 0)) ?_
  rw [show (Finset.univ : Finset (Fin 5)) = {0, 1, 2, 3, 4} by decide, bigSep_insert (by decide), bigSep_insert (by decide),
    bigSep_insert (by decide), bigSep_insert (by decide), bigSep_singleton]
  rfl

/-- The tile's buffers: the two scratch buffers and the rest. -/
theorem bufs_split : (ownBufs (thr d i) : sProp (MM F))
    = iprop((∃ f, (thr d i).loc cc1_scoped0 ↦{fullShare} f) ∗ (∃ f, (thr d i).loc cc1_scoped2 ↦{fullShare} f)
        ∗ bigSep (((ownRefs (τ := τ) (thr d i).2).erase ((thr d i).2.devRef cc1_scoped0)).erase ((thr d i).2.devRef cc1_scoped2))
            fun b => iprop(∃ f, ((d, b) : Loc nD τ sig) ↦{fullShare} f)) := by
  unfold ownBufs
  refine (SparseCore.bigSep_erase' (SparseCore.Cfg.mem_ownRefs_of_owner (p := (thr d i).2) (b := (thr d i).2.devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := (thr d i).2) (b := (thr d i).2.devRef cc1_scoped2) rfl⟩)]

/-- What the tile has besides what the body uses. -/
def Spare : sProp (MM F) :=
  iprop((bigSep (ownCells (thr d i) \ Finset.univ.map (tileCell d i)) fun g => semVal g 0)
    ∗ bigSep (((ownRefs (τ := τ) (thr d i).2).erase ((thr d i).2.devRef cc1_scoped0)).erase ((thr d i).2.devRef cc1_scoped2))
        fun b => iprop(∃ f, ((d, b) : Loc nD τ sig) ↦{fullShare} f))

theorem own_split : iprop(ownBufs (thr d i) ∗ ownSems0 (thr d i)) ⊢ (iprop(Own d i ∗ Spare d i) : sProp (MM F)) := by
  rw [sems_split, bufs_split]
  unfold Own Spare
  iintro ⟨⟨HI, HR, Hb⟩, ⟨⟨HJ0, HJ1, HP0, HP1, HG⟩, Hs⟩⟩
  ihave HI := (iSlots_split d i) $$ HI
  ihave HR := (rSlots_split d i) $$ HR
  icases HI with ⟨HI0, HI1⟩
  icases HR with ⟨HR0, HR1⟩
  isplitl [HI0 HI1 HR0 HR1 HJ0 HJ1 HP0 HP1 HG]
  · isplitl [HI0]; · iexact HI0
    isplitl [HI1]; · iexact HI1
    isplitl [HR0]; · iexact HR0
    isplitl [HR1]; · iexact HR1
    isplitl [HJ0]; · iexact HJ0
    isplitl [HJ1]; · iexact HJ1
    isplitl [HP0]; · iexact HP0
    isplitl [HP1]; · iexact HP1
    iexact HG
  isplitl [Hs]; · iexact Hs
  iexact Hb

theorem own_join : (iprop(Own d i ∗ Spare d i) : sProp (MM F)) ⊢ iprop(ownBufs (thr d i) ∗ ownSems0 (thr d i)) := by
  rw [sems_split, bufs_split]
  unfold Own Spare
  iintro ⟨⟨HI0, HI1, HR0, HR1, HJ0, HJ1, HP0, HP1, HG⟩, Hs, Hb⟩
  isplitl [HI0 HI1 HR0 HR1 Hb]
  · isplitl [HI0 HI1]
    · iapply (iSlots_join d i)
      isplitl [HI0]; · iexact HI0
      iexact HI1
    isplitl [HR0 HR1]
    · iapply (rSlots_join d i)
      isplitl [HR0]; · iexact HR0
      iexact HR1
    iexact Hb
  isplitl [HJ0 HJ1 HP0 HP1 HG]
  · isplitl [HJ0]; · iexact HJ0
    isplitl [HJ1]; · iexact HJ1
    isplitl [HP0]; · iexact HP0
    isplitl [HP1]; · iexact HP1
    iexact HG
  iexact Hs

end

end Cert.Proof

end
-- ==== Proof.Handshake.lean ====
/- The SparseCore call's handshakes: what every tile is handed and gives back, and that a tile's run meets it. -/
module

public import proofs.«01_k».proof.Proof.Blocks
public import proofs.«01_k».proof.Proof.Scratch

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore.Cfg (ownSems0 ownBufs)

variable {F : FTy → Type}

section

variable (Tb : Dev nD → S8192x128.Idx → Elt F .f32) (Lx : Dev nD → S1x16384.Idx → Elt F .i32) (Gx : Dev nD → S16384x128.Idx → Elt F .f32)

/-- What tile `s` of SparseCore `c` holds of the arrays, its blocks of the result at `f`. -/
@[irreducible] def tilePay (d : Dev nD) (c : Fin 2) (s : Fin 16) (f : S16384x128.Idx → Elt F .f32) : sProp (MM F) :=
  iprop((IB d (tileAt c s) (Lx d) 0 ∗ IB d (tileAt c s) (Lx d) 1 ∗ IB d (tileAt c s) (Lx d) 2 ∗ IB d (tileAt c s) (Lx d) 3)
    ∗ (OB d (tileAt c s) f 0 ∗ OB d (tileAt c s) f 1 ∗ OB d (tileAt c s) f 2 ∗ OB d (tileAt c s) f 3)
    ∗ TB d (tileAt c s) (Tb d) (shareAt c s))

/-- What SparseCore `c` holds: its tiles' parts. -/
@[irreducible] def corePay (d : Dev nD) (c : Fin 2) (f : S16384x128.Idx → Elt F .f32) : sProp (MM F) := bigSep Finset.univ fun s : Fin 16 => tilePay Tb Lx d c s f

omit Tb Lx Gx in
instance IB_storable (d : Dev nD) (i : grid1.Coords) (ix) (t : Fin 4) : BI.Storable (upEmb : UEmb _ (MM F)) (IB d i ix t) :=
  (inferInstance : BI.Storable (upEmb : UEmb _ (MM F)) ((iBlk i t).view.loc (thr d i) ↦[(iBlk i t).view.set]{fullShare} ix))
omit Tb Lx Gx in
instance OB_storable (d : Dev nD) (i : grid1.Coords) (f) (t : Fin 4) : BI.Storable (upEmb : UEmb _ (MM F)) (OB d i f t) :=
  (inferInstance : BI.Storable (upEmb : UEmb _ (MM F)) ((oBlk i t).view.loc (thr d i) ↦[(oBlk i t).view.set]{fullShare} f))
omit Tb Lx Gx in
instance TB_storable (d : Dev nD) (i : grid1.Coords) (tb) (q) : BI.Storable (upEmb : UEmb _ (MM F)) (TB d i tb q) :=
  (inferInstance : BI.Storable (upEmb : UEmb _ (MM F)) (tAll.view.loc (thr d i) ↦[tAll.view.set]{q} tb))
instance tilePay_storable (d : Dev nD) (c : Fin 2) (s : Fin 16) (f : S16384x128.Idx → Elt F .f32) : BI.Storable (upEmb : UEmb _ (MM F)) (tilePay Tb Lx d c s f) := by
  unfold tilePay; infer_instance
instance corePay_storable (d : Dev nD) (c : Fin 2) (f : S16384x128.Idx → Elt F .f32) : BI.Storable (upEmb : UEmb _ (MM F)) (corePay Tb Lx d c f) := by
  unfold corePay; infer_instance

variable [FloatOps F]

/-- The one call hands every tile its part, the result at `Gx`, and takes it back with the gathered rows. -/
def P : (K (F := F)).Pay (nD := nD) (Val := Elt F) (Name := ℕ) (U := UU) where
  st := fun q d c => match q with | 0 => corePay Tb Lx d (Fin.cast (nCore_zero (F := F)) c) (Gx d)
  dn := fun q d c => match q with | 0 => corePay Tb Lx d (Fin.cast (nCore_zero (F := F)) c) (gathered (Tb d) (Lx d))
  go := fun q d c s => match q with | 0 => tilePay Tb Lx d (Fin.cast (nCore_zero (F := F)) c) (Fin.cast (nSub_zero (F := F)) s) (Gx d)
  td := fun q d c s => match q with | 0 => tilePay Tb Lx d (Fin.cast (nCore_zero (F := F)) c) (Fin.cast (nSub_zero (F := F)) s) (gathered (Tb d) (Lx d))
  x := fun _ _ => iprop(emp)

instance P_storable : (P (F := F) Tb Lx Gx).IsStorable where
  st q d c := match q with | 0 => (inferInstance : BI.Storable (upEmb : UEmb _ (MM F)) (corePay Tb Lx d (Fin.cast (nCore_zero (F := F)) c) (Gx d)))
  dn q d c := match q with | 0 => (inferInstance : BI.Storable (upEmb : UEmb _ (MM F)) (corePay Tb Lx d (Fin.cast (nCore_zero (F := F)) c) (gathered (Tb d) (Lx d))))
  go q d c s := match q with
    | 0 => (inferInstance : BI.Storable (upEmb : UEmb _ (MM F)) (tilePay Tb Lx d (Fin.cast (nCore_zero (F := F)) c) (Fin.cast (nSub_zero (F := F)) s) (Gx d)))
  td q d c s := match q with
    | 0 => (inferInstance : BI.Storable (upEmb : UEmb _ (MM F)) (tilePay Tb Lx d (Fin.cast (nCore_zero (F := F)) c) (Fin.cast (nSub_zero (F := F)) s) (gathered (Tb d) (Lx d))))

/-- A SparseCore's part is its tiles' parts: nothing to do. -/
theorem vecSplit : (K (F := F)).VecSplit' (P Tb Lx Gx) 0 := by
  intro d c
  show corePay Tb Lx d (Fin.cast (nCore_zero (F := F)) c) (Gx d) ⊢ |={Set.univ}=> iprop(
      (bigSep Finset.univ fun s : Fin 16 => tilePay Tb Lx d (Fin.cast (nCore_zero (F := F)) c) s (Gx d))
      ∗ ((bigSep Finset.univ fun s : Fin 16 => tilePay Tb Lx d (Fin.cast (nCore_zero (F := F)) c) s (gathered (Tb d) (Lx d)))
          -∗ corePay Tb Lx d (Fin.cast (nCore_zero (F := F)) c) (gathered (Tb d) (Lx d))))
  unfold corePay
  iintro H
  imodintro
  isplitl [H]; · iexact H
  iintro H
  iexact H

/-- A tile's run from what the handshake hands it. -/
theorem tile_run (d : Dev nD) (c : Fin 2) (s : Fin 16) (hix : ∀ y, (Lx d y).toNat < 8192) (O : CellTallies nD τ sig (HIx 1)) (W : Waits sig (HIx 1))
    (hO : ∀ g, O g none = 0) :
    iprop(levAts (K (F := F)).L (K (F := F)).lev ∗ emp ∗ tilePay Tb Lx d c s (Gx d)
        ∗ scopedBufs (thr d (tileAt c s)) ∗ scopedSems0 (thr d (tileAt c s)) ∗ owes (thr d (tileAt c s)) O W)
      ⊢ WP d (tileAt c s) (fun _ => iprop(tilePay Tb Lx d c s (gathered (Tb d) (Lx d))
          ∗ scopedBufs (thr d (tileAt c s)) ∗ scopedSems0 (thr d (tileAt c s)) ∗ Owing d (tileAt c s) O W)) (tileProg (F := F) (tileAt c s)) := by
  rw [(K (F := F)).scopedBufs_V facts d (cV (tileAt c s)) (jV (tileAt c s)), SparseCore.Cfg.scopedSems0_V (Val := Elt F) d (cV (tileAt c s)) (jV (tileAt c s))]
  unfold tilePay
  iintro ⟨#Hlv, -, ⟨HI, HO, HT⟩, Hb, Hs, HW⟩
  ihave #Hm := (show levAts (K (F := F)).L (K (F := F)).lev ⊢ Transfers.MayWaits (thr d (tileAt c s)) (default : HIx 1) O from
    (K (F := F)).mayWaits_none (thr := thr d (tileAt c s)) hO) $$ Hlv
  ihave H := (own_split d (tileAt c s)) $$ [Hb Hs]
  · isplitl [Hb]; · iexact Hb
    iexact Hs
  icases H with ⟨Hown, Hsp⟩
  iapply (wp_wand frame _ _) $$ [HI HO HT Hown HW]
  · iapply (tile_wp d (tileAt c s) (Tb d) (Lx d) (Gx d) (shareAt c s) O hix W)
    isplitl [HI]; · iexact HI
    isplitl [HO]; · iexact HO
    isplitl [HT]; · iexact HT
    isplitl [Hown]; · iexact Hown
    isplitr; · iexact Hm
    iexact HW
  iintro %_ ⟨HI, HO, HT, Hown, HW⟩
  ihave H := (own_join d (tileAt c s)) $$ [Hown Hsp]
  · isplitl [Hown]; · iexact Hown
    iexact Hsp
  icases H with ⟨Hb, Hs⟩
  isplitl [HI HO HT]
  · isplitl [HI]; · iexact HI
    isplitl [HO]; · iexact HO
    iexact HT
  isplitl [Hb]; · iexact Hb
  isplitl [Hs]; · iexact Hs
  iexact HW

theorem defs₀_vector (c : Fin τ.nSC) (s : Fin τ.nSub) :
    defs₀ (F := F) (.scVector c s) 1 () = SparseCore.onTile hcore1 hsub1 (fun c s => tileProg (F := F) (tileAt c s)) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its handshake. -/
theorem tileObl (hix : ∀ d y, (Lx d y).toNat < 8192) : (K (F := F)).TileObl (D (F := F)) 𝒱 (P Tb Lx Gx) v₀ 0 := by
  intro d c i O W hO _ _
  simp only [show (P Tb Lx Gx).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_run Tb Lx Gx d (Fin.cast (nCore_zero (F := F)) c) (Fin.cast (nSub_zero (F := F)) i) (hix d) O W hO).trans (wp_mono frame _ _ fun _ => obl_post)

/-! ## The arrays whole -/

omit [FloatOps F] in
theorem table_last (A B C E : sProp (MM F)) : iprop((A ∗ B) ∗ C ∗ E) = iprop(A ∗ C ∗ E ∗ B) := by
  have h1 : iprop((A ∗ B) ∗ C ∗ E) ⊢ iprop(A ∗ C ∗ E ∗ B) := by
    iintro ⟨⟨HK, HT⟩, HI, HO⟩
    isplitl [HK]; · iexact HK
    isplitl [HI]; · iexact HI
    isplitl [HO]; · iexact HO
    iexact HT
  have h2 : iprop(A ∗ C ∗ E ∗ B) ⊢ iprop((A ∗ B) ∗ C ∗ E) := by
    iintro ⟨HK, HI, HO, HT⟩
    isplitl [HK HT]
    · isplitl [HK]; · iexact HK
      iexact HT
    isplitl [HI]; · iexact HI
    iexact HO
  exact BI.Entails.antisymm h1 h2

omit [FloatOps F] in
/-- The three arrays are what is kept of the table and every SparseCore's part. -/
theorem arrays_split (d : Dev nD) (f : S16384x128.Idx → Elt F .f32) :
    (iprop((tLoc d ↦{fullShare} Tb d) ∗ (iLoc d ↦{fullShare} Lx d) ∗ oLoc d ↦{fullShare} f) : sProp (MM F))
      = iprop((tLoc d ↦{shareKept} Tb d) ∗ bigSep Finset.univ fun c : Fin 2 => corePay Tb Lx d c f) := by
  rw [table_split, list_split, rows_split]
  unfold corePay tilePay
  simp only [bigSep_sep']
  exact table_last _ _ _ _

end

end Cert.Proof

end
-- ==== Proof.Main.lean ====
/- The whole program on one device: host operations, TensorCore kernel, host operations, SparseCore call, host operations. -/
module

public import proofs.«01_k».proof.Proof.Region
public import proofs.«01_k».proof.Proof.Handshake

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

set_option maxRecDepth 16384

open Idealize.ShloMosaic.TcCoe
open Idealize.ShloMosaic.Rounds

variable {F : FTy → Type} [FloatOps F]

variable (m : (ℓ : Loc nD τ sig) → Buf (Elt F) ℓ) (ρ : Dev nD → PrngReg)

/-- The three arrays of the SparseCore call. -/
abbrev rTab : DevRef τ sig := Proc.devRef .tc main_v10
abbrev rLst : DevRef τ sig := Proc.devRef .tc main_v11
abbrev rOut : DevRef τ sig := Proc.devRef .tc main_v12

/-- Device `d`'s arrays when the SparseCore kernel starts, when it ends, and at the end of the program. -/
abbrev V2 (d : Dev nD) : Valuation τ sig (Elt F) := StableHlo.after midOps (V1 m d)
/-- The SparseCore's table, list and result before the call. -/
abbrev Tb (d : Dev nD) : Buf (Elt F) (tLoc d) := V2 m d rTab
abbrev Lx (d : Dev nD) : Buf (Elt F) (iLoc d) := V2 m d rLst
abbrev Gx (d : Dev nD) : Buf (Elt F) (oLoc d) := V2 m d rOut
def V3 (d : Dev nD) : Valuation τ sig (Elt F) := Function.update (V2 m d) rOut (gathered (Tb m d) (Lx m d))
abbrev V4 (d : Dev nD) : Valuation τ sig (Elt F) := StableHlo.after postOps (V3 m d)

theorem V3_out (d : Dev nD) : V3 m d rOut = gathered (Tb m d) (Lx m d) := Function.update_self ..
theorem V3_other (d : Dev nD) (b : DevRef τ sig) (h : b ≠ rOut) : V3 m d b = V2 m d b := Function.update_of_ne h ..

/-- The call's three arrays held apart from the rest. -/
theorem three_sub : ({rTab, rLst, rOut} : Finset (DevRef τ sig)) ⊆ Pipeline.ucRefs τ sig := by
  unfold Pipeline.ucRefs; decide

theorem three_held (d : Dev nD) (W : Valuation τ sig (Elt F)) :
    (StableHlo.held (d : Thread nD τ) {rTab, rLst, rOut} W : sProp (MM F))
      = iprop((tLoc d ↦{fullShare} W rTab) ∗ (iLoc d ↦{fullShare} W rLst) ∗ oLoc d ↦{fullShare} W rOut) := by
  unfold StableHlo.held
  rw [SparseCore.bigSep_insert' (by decide), SparseCore.bigSep_insert' (by decide), bigSep_singleton]

theorem rest_same (d : Dev nD) :
    (StableHlo.held (d : Thread nD τ) (Pipeline.ucRefs τ sig \ {rTab, rLst, rOut}) (V2 m d) : sProp (MM F))
      = StableHlo.held (d : Thread nD τ) (Pipeline.ucRefs τ sig \ {rTab, rLst, rOut}) (V3 m d) :=
  StableHlo.held_congr _ fun b hb => (V3_other m d b fun e => (Finset.mem_sdiff.mp hb).2 (by rw [e]; decide)).symm

theorem st_eq (d : Dev nD) : (bigSep Finset.univ fun c : Fin ((K (F := F)).nCore 0) => (P (Tb m) (Lx m) (Gx m)).st 0 d c)
    = bigSep Finset.univ fun c : Fin 2 => corePay (Tb m) (Lx m) d c (Gx m d) := rfl
theorem dn_eq (d : Dev nD) : (bigSep Finset.univ fun c : Fin ((K (F := F)).nCore 0) => (P (Tb m) (Lx m) (Gx m)).dn 0 d c)
    = bigSep Finset.univ fun c : Fin 2 => corePay (Tb m) (Lx m) d c (gathered (Tb m d) (Lx m d)) := rfl

/-- The SparseCore call inside the program: the rows are gathered, all else is as before. -/
theorem gather_wp (κ : GSem nD τ sig → ℕ) (d : Dev nD) (Q : PUnit → sProp (MM F)) :
    iprop((iprop((K (F := F)).tcSt EH d 1 ∗ StableHlo.held (d : Thread nD τ) (Pipeline.ucRefs τ sig) (V3 m d)) -∗ Q ⟨⟩)
        ∗ (K (F := F)).ctx EH (P (Tb m) (Lx m) (Gx m)) κ ∗ (K (F := F)).tcSt EH d 0
        ∗ StableHlo.held (d : Thread nD τ) (Pipeline.ucRefs τ sig) (V2 m d))
      ⊢ wp frame (wpE ((K (F := F)).defs (D (F := F))) 𝒱 (SparseCore.T d) none) Set.univ ((K (F := F)).run d 0) Q := by
  rw [StableHlo.held_sub_split _ three_sub (V2 m d), StableHlo.held_sub_split _ three_sub (V3 m d), three_held, three_held,
    rest_same, V3_out, V3_other m d rTab (by decide), V3_other m d rLst (by decide),
    arrays_split (Tb m) (Lx m) d (V2 m d rOut), arrays_split (Tb m) (Lx m) d (gathered (Tb m d) (Lx m d))]
  iintro ⟨Hk, #Hctx, Hst, ⟨Ht, Hc⟩, Hr⟩
  iapply ((K (F := F)).wp_run (D (F := F)) 𝒱 (EH := EH) (P := P (Tb m) (Lx m) (Gx m)) κ d 0) $$ [Hk Hst Ht Hc Hr]
  isplitr; · iexact Hctx
  isplitl [Hst]; · iexact Hst
  isplitl [Hc]
  · rw [st_eq]; iexact Hc
  iintro ⟨Hst, Hdn⟩
  ihave Hdn' := (Entails.of_eq (dn_eq m d)) $$ Hdn
  iapply Hk
  isplitl [Hst]; · iexact Hst
  isplitr [Hr]
  · isplitl [Ht] <;> iassumption
  iexact Hr

/-- What a device's TensorCore holds of the pipeline's rounds. -/
def pipeGhost (d : Dev nD) : sProp (MM F) :=
  iprop(Pipeline.cellsGhost (Pipeline.pin (pcfgs (F := F)) noTables) EP 0 d ∗ Pipeline.toksInit (Pipeline.pin (pcfgs (F := F)) noTables) EP 0 d)

/-- What it holds at the end: every array at its final contents. -/
abbrev FIN (d : Dev nD) : sProp (MM F) := StableHlo.held (d : Thread nD τ) (Pipeline.ucRefs τ sig) (V4 m d)

/-- The state between calls is what the TensorCore owes and the rest of its handshakes' state. -/
theorem tcSt_zero (d : Dev nD) : ∃ R : sProp (MM F), (K (F := F)).tcSt EH d 0 = iprop(tcOwes d ∗ R) := ⟨_, rfl⟩

set_option backward.isDefEq.respectTransparency.types false in
set_option maxHeartbeats 1000000 in
/-- The program on one device's TensorCore. -/
theorem main_wp (κ : GSem nD τ sig → ℕ) (d : Dev nD) :
    iprop((K (F := F)).ctx EH (P (Tb m) (Lx m) (Gx m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_zero (F := F) d
  have hu : (unscopedBufs d (fun b => m ((SparseCore.T d).loc b)) : sProp (MM F))
      = StableHlo.held (d : Thread nD τ) (Pipeline.ucRefs τ sig) (fun b => m (d, b)) := Pipeline.unscopedBufs_held d (fun b => m (d, b))
  unfold SparseCore.Cfg.tcRes SparseCore.Cfg.tcEnd pipeGhost
  rw [hu, main_eq]
  iintro ⟨#Hctx, Hst, ⟨Hb, Hh, Hts, -⟩, Hg, Htk⟩
  ihave #Hl := ((K (F := F)).ctx_levAts κ) $$ Hctx
  iapply (StableHlo.wp_seq 𝒱 none Set.univ d (Pipeline.ucRefs τ sig) _ preOps (fun op h => Pipeline.sub_ucRefs op (preOps_sub op h)) preOps_fresh _) $$ [Hb Hh]
  · isplitl [Hb] <;> iassumption
  iintro ⟨Hb, Hh⟩
  rw [wp_bind]
  ihave Hst' := (Entails.of_eq hR) $$ Hst
  icases Hst' with ⟨HO, HR⟩
  iapply (argmin_wp m d _)
  isplitr [Hb Hh HO Hg Htk]
  · iintro ⟨Hb, Hh, HO⟩
    ihave Hst := (Entails.of_eq hR.symm) $$ [HO HR]
    · isplitl [HO] <;> iassumption
    iapply (StableHlo.wp_seq 𝒱 none Set.univ d (Pipeline.ucRefs τ sig) _ midOps (fun op h => Pipeline.sub_ucRefs op (midOps_sub op h)) midOps_fresh _) $$ [Hb Hh]
    · isplitl [Hb] <;> iassumption
    iintro ⟨Hb, Hh⟩
    rw [wp_bind]
    iapply (gather_wp m κ d _)
    isplitr [Hst Hh]
    · iintro ⟨Hst, Hh⟩
      have hend := StableHlo.wp_seq (defs := (K (F := F)).defs (D (F := F))) 𝒱 none Set.univ d (Pipeline.ucRefs τ sig) (fun _ => pure (⟨⟩ : PUnit))
        (K := fun _ => iprop((K (F := F)).tcSt EH d 1 ∗ FIN m d ∗ (boundary (SparseCore.T d) ∗ (K (F := F)).tcSems0 d)))
        postOps (fun op h => Pipeline.sub_ucRefs op (postOps_sub op h)) postOps_fresh (V3 m d)
      rw [show (StableHlo.seq postOps >>= fun _ => pure (⟨⟩ : PUnit)) = StableHlo.seq postOps from bind_pure _] at hend
      iapply hend $$ [Hb Hh]
      · isplitl [Hb] <;> iassumption
      iintro ⟨Hb, Hh⟩
      iapply (le_wp_ret _ _)
      isplitl [Hst]; · iexact Hst
      isplitl [Hh]; · iexact Hh
      isplitl [Hb] <;> iassumption
    isplitr; · iexact Hctx
    isplitl [Hst] <;> iassumption
  isplitl [Hb]; · iexact Hb
  isplitl [Hh]; · iexact Hh
  isplitl [HO]; · iexact HO
  isplitr; · iexact Hl
  isplitl [Hg] <;> iassumption

end Cert.Proof

end
-- ==== Proof.Launch.lean ====
/- The launch: every execution of the program ends with its arrays at contents known in advance. -/
module

public import proofs.«01_k».proof.Proof.Main

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

set_option maxRecDepth 16384

open Idealize.ShloMosaic.TcCoe
open Idealize.ShloMosaic.Rounds

variable {F : FTy → Type} [FloatOps F]

variable (m : (ℓ : Loc nD τ sig) → Buf (Elt F) ℓ) (ρ : Dev nD → PrngReg)

/-- The ghost state at the launch: the handshakes' rounds, the pipeline's rounds, no counters. -/
def u₀ : UU := (initOf (K (F := F)).hsCells (K (F := F)).hsToks,
  (initOf (Pipeline.cells (Pipeline.pin (pcfgs (F := F)) noTables) cellOf_inj)
    (Pipeline.launchToks (Pipeline.pin (pcfgs (F := F)) noTables) cellOf_inj), 1))

set_option backward.isDefEq.respectTransparency.types false in
/-- It splits into the handshakes' part and every device's part of the pipeline's. -/
theorem launch_ghost : (ownU (u₀ (F := F)) : sProp (MM F))
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P (Tb m) (Lx m) (Gx m)).x q thr) := by
  have hx : (bigSep Finset.univ fun thr : Thread nD τ => bigSep Finset.univ fun q : Fin 1 => (P (Tb m) (Lx m) (Gx m)).x q thr)
      = (iprop(emp) : sProp (MM F)) := by
    rw [show (bigSep Finset.univ fun thr : Thread nD τ => bigSep Finset.univ fun q : Fin 1 => (P (Tb m) (Lx m) (Gx m)).x q thr)
        = bigSep Finset.univ fun _ => iprop(emp) from bigSep_congr fun _ _ => bigSep_univ_of_subsingleton (0 : Fin 1)]
    exact bigSep_emp_const _
  have hg : (bigSep Finset.univ fun d : Dev nD => (pipeGhost d : sProp (MM F)))
      = iprop((bigSep Finset.univ fun d : Dev nD => bigSep Finset.univ fun p : Fin 1 => Pipeline.cellsGhost (Pipeline.pin (pcfgs (F := F)) noTables) EP p d)
        ∗ bigSep Finset.univ fun d : Dev nD => bigSep Finset.univ fun p : Fin 1 => Pipeline.toksInit (Pipeline.pin (pcfgs (F := F)) noTables) EP p d) := by
    rw [← bigSep_sep']
    refine bigSep_congr fun d _ => ?_
    unfold pipeGhost
    rw [bigSep_univ_of_subsingleton (0 : Fin 1), bigSep_univ_of_subsingleton (0 : Fin 1)]
  rw [hx, hg]
  unfold u₀
  iintro Hu
  ihave H := (ownU_pair (initOf (K (F := F)).hsCells (K (F := F)).hsToks) _) $$ Hu
  icases H with ⟨HH, HP⟩
  ihave H := (own_pair_emb embR _ (1 : Counters)) $$ HP
  icases H with ⟨HP, -⟩
  imod (Pipeline.fund_ghost (Pipeline.pin (pcfgs (F := F)) noTables) EP cellOf_inj) $$ HP with ⟨Hg, Ht⟩
  imodintro
  isplitl [HH]; · iexact HH
  isplitl [Hg Ht]; · isplitl [Hg] <;> iassumption
  iempintro

/-- What a final state must hold on device `d`: every unscoped array at its final contents. -/
def endsAt (d : Dev nD) (s' : Phys nD τ sig (Elt F)) : Prop := ∀ b ∈ Pipeline.ucRefs τ sig, s'.mem.mem (d, b) = V4 m d b

theorem ends_read (d : Dev nD) (s' : Phys nD τ sig (Elt F)) : iprop(FIN m d ∗ SI s') ⊢ (⌜endsAt m d s'⌝ : sProp (MM F)) := by
  have h := pointsTo_read_all (Ix := HIx 1) (Name := ℕ) (U := UU) (Lvl := ℕ) (Pipeline.ucRefs τ sig) (fun b => ((d, b) : Loc nD τ sig)) (fun b => V4 m d b) s'
  refine BIBase.Entails.trans h ?_
  iintro ⟨%h, -⟩
  ipureintro
  exact h

/-- Every execution ends, with the arrays at their final contents and every semaphore at zero, whenever the row of indices
    that the TensorCore kernel writes is below 8192. -/
theorem run_main [∀ e, Nonempty (Elt F e)] (hix : ∀ d y, (Lx m d y).toNat < 8192) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = V4 m d b) ∧ r.2.sem = fun _ => 0) :=
  SparseCore.Cfg.θ_run_sc_quiescent (K := K (F := F)) (D := D (F := F)) (𝒱 := 𝒱) (EH := EH) (P := P (Tb m) (Lx m) (Gx m)) (A := ∅) facts v₀
    (fun q hq => match q with | 0 => nomatch hq)
    (fun q _ => match q with | 0 => tileObl (Tb m) (Lx m) (Gx m) hix)
    (fun q _ => match q with | 0 => SparseCore.Cfg.VecSplit.of_plain (vecSplit (Tb m) (Lx m) (Gx m)))
    m ρ main pipeGhost (FIN m) (u₀ (F := F)) (sep_elim_left.trans (launch_ghost m)) (main_wp m ρ) (endsAt m) (ends_read m) _ (fun _ h hz => ⟨h, hz⟩)

end Cert.Proof

end
-- ==== Proof.Best.lean ====
/- The index of the least value, said of a family of extended reals, and the two ways the programs find it. -/
module

public import Idealize.ShloMosaic.PureOps.Ideal.Laws

@[expose] public section

noncomputable section

namespace Cert.Proof

open Idealize.ShloMosaic

/-- Place `r` holds the least of the values, and no earlier place does. -/
def IsBest {n : Nat} (f : Fin n → EReal) (r : Fin n) : Prop := (∀ k, f r ≤ f k) ∧ ∀ k, f k ≤ f r → r ≤ k

/-- There is one such place at most, -/
theorem IsBest.unique {n : Nat} {f : Fin n → EReal} {r s : Fin n} (h : IsBest f r) (h' : IsBest f s) : r = s :=
  le_antisymm (h.2 s (h'.1 r)) (h'.2 r (h.1 s))

/-- and there is one where there are values at all. -/
theorem IsBest.exists {n : Nat} (hn : 0 < n) (f : Fin n → EReal) : ∃ r, IsBest f r := by
  haveI : Nonempty (Fin n) := ⟨⟨0, hn⟩⟩
  obtain ⟨a, ha⟩ := Finite.exists_min f
  have hs : (Finset.univ.filter fun r => ∀ k, f r ≤ f k).Nonempty := ⟨a, Finset.mem_filter.mpr ⟨Finset.mem_univ _, ha⟩⟩
  refine ⟨_, (Finset.mem_filter.mp (Finset.min'_mem _ hs)).2, fun k hk => Finset.min'_le _ _ (Finset.mem_filter.mpr ⟨Finset.mem_univ _, fun l => ?_⟩)⟩
  exact hk.trans ((Finset.mem_filter.mp (Finset.min'_mem _ hs)).2 l)

/-! ## As the kernel finds it: the least value, then the least place that holds it -/

/-- The fold of the minimum is a lower bound, -/
theorem fold_min_le {ι : Type} (S : Finset ι) (g : ι → EReal) (b : EReal) (i : ι) (hi : i ∈ S) : S.fold min b g ≤ g i :=
  Finset.fold_min_le (g i) |>.mpr (Or.inr ⟨i, hi, le_rfl⟩)

/-- and from the greatest value it is attained or that value. -/
theorem fold_min_mem {ι : Type} (S : Finset ι) (g : ι → EReal) (b : EReal) : S.fold min b g = b ∨ ∃ i ∈ S, S.fold min b g = g i := by
  classical
  induction S using Finset.induction_on with
  | empty => exact Or.inl rfl
  | insert a S ha ih =>
    rw [Finset.fold_insert ha]
    rcases min_choice (g a) (S.fold min b g) with h | h
    · exact Or.inr ⟨a, Finset.mem_insert_self _ _, h⟩
    · rw [h]
      exact ih.imp id fun ⟨i, hi, e⟩ => ⟨i, Finset.mem_insert_of_mem hi, e⟩

/-- The signed minimum of two words is one of them, at most either. -/
theorem minsi_spec (x y : BitVec 32) :
    (IntOp.minsi x y = x ∨ IntOp.minsi x y = y) ∧ (IntOp.minsi x y).toInt ≤ x.toInt ∧ (IntOp.minsi x y).toInt ≤ y.toInt := by
  unfold IntOp.minsi
  split
  · rename_i h
    exact ⟨Or.inl rfl, le_rfl, by rw [BitVec.slt, decide_eq_true_eq] at h; omega⟩
  · rename_i h
    exact ⟨Or.inr rfl, by rw [BitVec.slt, decide_eq_true_eq] at h; omega, le_rfl⟩

/-- So a fold of it is at most each word folded, and one of them or the first. -/
theorem fold_minsi {ι : Type} (S : Finset ι) (g : ι → BitVec 32) (b : BitVec 32) :
    (S.fold IntOp.minsi b g = b ∨ ∃ i ∈ S, S.fold IntOp.minsi b g = g i) ∧ (S.fold IntOp.minsi b g).toInt ≤ b.toInt
      ∧ ∀ i ∈ S, (S.fold IntOp.minsi b g).toInt ≤ (g i).toInt := by
  classical
  induction S using Finset.induction_on with
  | empty => exact ⟨Or.inl rfl, le_rfl, fun i hi => absurd hi (Finset.notMem_empty i)⟩
  | insert a S ha ih =>
    rw [Finset.fold_insert ha]
    obtain ⟨h1, h2, h3⟩ := minsi_spec (g a) (S.fold IntOp.minsi b g)
    refine ⟨?_, h3.trans ih.2.1, fun i hi => ?_⟩
    · rcases h1 with h | h
      · exact Or.inr ⟨a, Finset.mem_insert_self _ _, h⟩
      · rw [h]
        exact ih.1.imp id fun ⟨i, hi, e⟩ => ⟨i, Finset.mem_insert_of_mem hi, e⟩
    · rcases Finset.mem_insert.mp hi with rfl | hi
      · exact h2
      · exact h3.trans (ih.2.2 i hi)

/-- The signed reading of a word that holds a small number. -/
theorem toInt_small {n : Nat} (h : n < 2 ^ 31) : (BitVec.ofNat 32 n).toInt = (n : Int) := by
  rw [BitVec.toInt_eq_toNat_cond, BitVec.toNat_ofNat, Nat.mod_eq_of_lt (by omega), if_pos (by omega)]

/-- The kernel's index: the least place whose value equals the least value, `n` standing for the places that do not. -/
theorem kernel_best {ι : Type} {n : Nat} (hn : 0 < n) (hn' : n < 2 ^ 31 - 1) (f : Fin n → EReal) (S : Finset ι) (row : ι → Fin n)
    (hrow : ∀ r, ∃ i ∈ S, row i = r) (g : ι → EReal) (hg : ∀ i ∈ S, g i = f (row i)) (w : ι → BitVec 32)
    (hw : ∀ i ∈ S, w i = if f (row i) = S.fold min ⊤ g then BitVec.ofNat 32 (row i).val else BitVec.ofNat 32 n) :
    ∃ r, IsBest f r ∧ S.fold IntOp.minsi 2147483647#32 w = BitVec.ofNat 32 r.val := by
  obtain ⟨r, hr⟩ := IsBest.exists hn f
  obtain ⟨i, hi, rfl⟩ := hrow r
  have hgm : S.fold min ⊤ g = f (row i) := by
    refine le_antisymm ((fold_min_le S g ⊤ i hi).trans_eq (hg i hi)) ?_
    rcases fold_min_mem S g ⊤ with h | ⟨k, hk, h⟩
    · rw [h]; exact le_top
    · rw [h, hg k hk]; exact hr.1 _
  refine ⟨row i, hr, ?_⟩
  obtain ⟨h1, h2, h3⟩ := fold_minsi S w 2147483647#32
  have hwi : w i = BitVec.ofNat 32 (row i).val := by rw [hw i hi, if_pos hgm.symm]
  have hle := h3 i hi
  rw [hwi, toInt_small (by omega)] at hle
  have hlt := (row i).isLt
  rcases h1 with h | ⟨k, hk, h⟩
  · rw [h, show (2147483647#32 : BitVec 32).toInt = 2147483647 from rfl] at hle
    omega
  rw [h]
  rw [h] at hle
  rw [hw k hk] at hle ⊢
  split at hle
  · rename_i e
    rw [if_pos e]
    rw [toInt_small (by have := (row k).isLt; omega)] at hle
    have := hr.2 (row k) (by rw [e, hgm])
    rw [le_antisymm this (by omega)]
  · rw [toInt_small (by omega)] at hle
    omega

/-! ## As the reference finds it: a fold over pairs of a value and its place -/

/-- The step of the fold: the pair with the lesser value, the lesser place among equal values. -/
def pick (a b : EReal × BitVec 32) : EReal × BitVec 32 := if a.1 < b.1 ∨ a.1 = b.1 ∧ a.2.toInt < b.2.toInt then a else b

/-- A pair before or level with another. -/
def before (a b : EReal × BitVec 32) : Prop := a.1 < b.1 ∨ a.1 = b.1 ∧ a.2.toInt ≤ b.2.toInt

theorem before_trans {a b c : EReal × BitVec 32} (h : before a b) (h' : before b c) : before a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

theorem pick_spec (a b : EReal × BitVec 32) : (pick a b = a ∨ pick a b = b) ∧ before (pick a b) a ∧ before (pick a b) b := by
  unfold pick before
  split
  · rename_i h
    exact ⟨Or.inl rfl, Or.inr ⟨rfl, le_rfl⟩, h.imp id fun h => ⟨h.1, h.2.le⟩⟩
  · rename_i h
    refine ⟨Or.inr rfl, ?_, Or.inr ⟨rfl, le_rfl⟩⟩
    rw [not_or] at h
    rcases lt_or_eq_of_le (not_lt.mp h.1) with h' | h'
    · exact Or.inl h'
    · exact Or.inr ⟨h', not_lt.mp fun h'' => h.2 ⟨h'.symm, h''⟩⟩

/-- The fold is at or before every pair, and is one of them or the first. -/
theorem foldl_pick (l : List (EReal × BitVec 32)) (a : EReal × BitVec 32) :
    (l.foldl pick a = a ∨ l.foldl pick a ∈ l) ∧ before (l.foldl pick a) a ∧ ∀ p ∈ l, before (l.foldl pick a) p := by
  induction l generalizing a with
  | nil => exact ⟨Or.inl rfl, Or.inr ⟨rfl, le_rfl⟩, fun p hp => absurd hp List.not_mem_nil⟩
  | cons b l ih =>
    rw [List.foldl_cons]
    obtain ⟨h1, h2, h3⟩ := ih (pick a b)
    obtain ⟨p1, p2, p3⟩ := pick_spec a b
    refine ⟨?_, before_trans h2 p2, fun p hp => ?_⟩
    · rcases h1 with h | h
      · rw [h]
        exact p1.imp id fun e => by rw [e]; exact List.mem_cons_self
      · exact Or.inr (List.mem_cons_of_mem _ h)
    · rcases List.mem_cons.mp hp with rfl | hp
      · exact before_trans h2 p3
      · exact h3 p hp

/-- The reference's index: the fold over every place's pair, from the greatest value at place zero. -/
theorem reference_best {n : Nat} (hn : 0 < n) (hn' : n < 2 ^ 31) (f : Fin n → EReal) (l : List (EReal × BitVec 32))
    (hl : ∀ p, p ∈ l ↔ ∃ r : Fin n, p = (f r, BitVec.ofNat 32 r.val)) :
    ∃ r, IsBest f r ∧ (l.foldl pick (⊤, 0#32)).2 = BitVec.ofNat 32 r.val := by
  obtain ⟨h1, _, h3⟩ := foldl_pick l (⊤, 0#32)
  have key : ∀ r : Fin n, l.foldl pick (⊤, 0#32) = (f r, BitVec.ofNat 32 r.val) → IsBest f r := by
    intro r e
    have hb : ∀ k : Fin n, f r < f k ∨ f r = f k ∧ r ≤ k := by
      intro k
      have := h3 _ ((hl _).mpr ⟨k, rfl⟩)
      rw [e] at this
      unfold before at this
      rw [toInt_small (by omega), toInt_small (by omega)] at this
      exact this.imp id fun h => ⟨h.1, Fin.le_def.mpr (by exact_mod_cast h.2)⟩
    exact ⟨fun k => (hb k).elim le_of_lt fun h => h.1.le, fun k hk => (hb k).elim (fun h => absurd hk (not_le.mpr h)) fun h => h.2⟩
  rcases h1 with h | h
  · have hall := h3 _ ((hl _).mpr ⟨⟨0, hn⟩, rfl⟩)
    rw [h] at hall
    have h0 : f ⟨0, hn⟩ = ⊤ := by
      rcases hall with h' | h'
      · exact absurd h' not_top_lt
      · exact h'.1.symm
    exact ⟨⟨0, hn⟩, key _ (by rw [h, h0]), by rw [h]⟩
  · obtain ⟨r, e⟩ := (hl _).mp h
    exact ⟨r, key r e, by rw [e]⟩

end Cert.Proof

end
-- ==== Proof.Dist.lean ====
/- The distance of a token to a code, and the token's row of distances, over the two argument arrays. -/
module

public import Idealize.ShloMosaic.Lib.Pointwise
public import proofs.«01_k».proof.Proof.Best

@[expose] public section

noncomputable section

namespace Cert.Proof

open Idealize.ShloMosaic

/-- The tokens, and the codebook. -/
abbrev Toks : Type := FVec Ideal ⟨3, ![16, 1024, 64]⟩ .f32
abbrev Codes : Type := FVec Ideal ⟨2, ![8192, 64]⟩ .f32

/-- Entry `k` of token `n`, the tokens counted through the batch. -/
def tok (z : Toks) (n : Fin 16384) (k : Fin 64) : EReal :=
  z (ix3 (⟨n.val / 1024, by omega⟩ : Fin 16) (⟨n.val % 1024, by omega⟩ : Fin 1024) k)

/-- The squared distance of token `n` to code `r`: the norms less twice the product. -/
def dist (z : Toks) (c : Codes) (n : Fin 16384) (r : Fin 8192) : EReal :=
  (∑ k : Fin 64, tok z n k * tok z n k) - (∑ k : Fin 64, Ideal.ofBits .f32 0x40000000#32 * tok z n k * c (ix2 r k))
    + ∑ k : Fin 64, c (ix2 r k) * c (ix2 r k)

end Cert.Proof

end
-- ==== Proof.Payload.lean ====
/- What the TensorCore kernel computes for one block: for each token the first code at the least distance. -/
module

public import proofs.«01_k».proof.Proof.Argmin
public import proofs.«01_k».proof.Proof.Dist

@[expose] public section

set_option maxRecDepth 16384

noncomputable section

namespace Cert.Proof

open Cert.KernelIdeal Cert.KernelIdeal.Gen
open Idealize.ShloMosaic Idealize.ShloMosaic.TcCoe
open Idealize.SL.Sem

/-- The kernel's index for a column is the first row whose distance is least. -/
theorem pay_best (v0 : FVec Ideal S8192x64 .f32) (v3 : FVec Ideal S64x1024 .f32) (v9 : FVec Ideal S1x1024 .f32) (v11 : FVec Ideal S1x8192 .f32) (j : Fin 1024) :
    ∃ r, IsBest (fun r => v9 (ix2 0 j) - (∑ k : Fin 64, v0 (ix2 r k) * (Ideal.ofBits .f32 0x40000000#32 * v3 (ix2 k j))) + v11 (ix2 0 r)) r
      ∧ k0_pay1 (F := Ideal) v0 v3 v9 v11 (ix2 0 j) = BitVec.ofNat 32 r.val := by
  have htop : Ideal.ofBits .f32 2139095040#32 = (⊤ : EReal) := by simp [Ideal.ofBits, Ideal.ieee]
  unfold k0_pay1
  pointwise
  rw [htop]
  exact kernel_best (n := 8192) (by decide) (by decide) _ Finset.univ id (fun r => ⟨r, Finset.mem_univ _, rfl⟩) _ (fun _ _ => rfl) _ (fun _ _ => rfl)

end Cert.Proof

end
-- ==== Proof.Shown.lean ====
/- What the TensorCore kernel is shown at each grid point, in terms of the arguments. -/
module

public import proofs.«01_k».proof.Proof.Payload
public import Idealize.ShloMosaic.Lib.Pointwise
public import Idealize.ShloMosaic.Lib.Claim
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.SL.Sem

variable (m : (ℓ : Loc nD τ sig) → Buf (Elt Ideal) ℓ)

/-- The two arguments. -/
abbrev zK (d : Dev nD) : Toks := m ((d.tc : Thread nD τ).loc main_arg0)
abbrev cK (d : Dev nD) : Codes := m ((d.tc : Thread nD τ).loc main_arg1)

/-- The arrays that the kernel is shown. -/
theorem toks_at (d : Dev nD) (k : Fin 64) (n : Fin 16384) : V0 m d (Proc.devRef .tc main_v7) (ix2 k n) = tok (zK m d) n k := by
  unfold V0
  after_results
  pointwise
  rfl

theorem norms_at (d : Dev nD) (n : Fin 16384) : V0 m d (Proc.devRef .tc main_v3) (ix2 0 n) = ∑ k, tok (zK m d) n k * tok (zK m d) n k := by
  unfold V0
  after_results
  pointwise
  rfl

theorem code_norms_at (d : Dev nD) (r : Fin 8192) : V0 m d (Proc.devRef .tc main_v6) (ix2 0 r) = ∑ k, cK m d (ix2 r k) * cK m d (ix2 r k) := by
  unfold V0
  after_results
  pointwise

theorem codes_at (d : Dev nD) : V0 m d (Proc.devRef .tc main_arg1) = cK m d := by
  unfold V0
  after_results

/-- Where the blocks lie: the codes and their norms whole, the tokens, their norms and the indices 1024 at a time. -/
theorem index_0 : ∀ t : Fin cfg0.N, win0_0.index t 0 = 0 ∧ win0_0.index t 1 = 0 :=
  (by decide +kernel : ∀ t : Fin grid0.N, win0_0.index t 0 = 0 ∧ win0_0.index t 1 = 0)
theorem index_1 : ∀ t : Fin cfg0.N, win0_1.index t 0 = 0 ∧ win0_1.index t 1 = t.val :=
  (by decide +kernel : ∀ t : Fin grid0.N, win0_1.index t 0 = 0 ∧ win0_1.index t 1 = t.val)
theorem index_2 : ∀ t : Fin cfg0.N, win0_2.index t 0 = 0 ∧ win0_2.index t 1 = t.val :=
  (by decide +kernel : ∀ t : Fin grid0.N, win0_2.index t 0 = 0 ∧ win0_2.index t 1 = t.val)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = t.val :=
  (by decide +kernel : ∀ t : Fin grid0.N, win0_4.index t 0 = 0 ∧ win0_4.index t 1 = t.val)

theorem zero_block (a s x : Nat) (h : a = 0) : a * s + x = x := by
  rw [h, Nat.zero_mul, Nat.zero_add]

/-- The blocks' entries. -/
theorem block_codes (d : Dev nD) (t : Fin cfg0.N) (r : Fin 8192) (k : Fin 64) :
    inBlock m d 0 t (ix2 r k) = cK m d (ix2 r k) := by
  rw [← codes_at m d]
  unfold inBlock
  refine congrArg (V0 m d (Proc.devRef .tc main_arg1)) (funext fun i => Fin.ext ?_)
  blk_simp
  fin_cases i
  · exact zero_block _ _ _ (index_0 t).1
  · exact zero_block _ _ _ (index_0 t).2

theorem block_toks (d : Dev nD) (t : Fin cfg0.N) (k : Fin 64) (j : Fin 1024) (n : Fin 16384) (h : n.val = t.val * 1024 + j.val) :
    inBlock m d 1 t (ix2 k j) = tok (zK m d) n k := by
  rw [← toks_at m d]
  unfold inBlock
  refine congrArg (V0 m d (Proc.devRef .tc main_v7)) (funext fun i => Fin.ext ?_)
  blk_simp
  fin_cases i
  · exact zero_block _ _ _ (index_1 t).1
  · exact (congrArg (fun a => a * 1024 + j.val) (index_1 t).2).trans h.symm

theorem block_norms (d : Dev nD) (t : Fin cfg0.N) (j : Fin 1024) (n : Fin 16384) (h : n.val = t.val * 1024 + j.val) :
    inBlock m d 2 t (ix2 0 j) = ∑ k, tok (zK m d) n k * tok (zK m d) n k := by
  rw [← norms_at m d]
  unfold inBlock
  refine congrArg (V0 m d (Proc.devRef .tc main_v3)) (funext fun i => Fin.ext ?_)
  blk_simp
  fin_cases i
  · exact zero_block _ _ _ (index_2 t).1
  · exact (congrArg (fun a => a * 1024 + j.val) (index_2 t).2).trans h.symm

theorem block_code_norms (d : Dev nD) (t : Fin cfg0.N) (r : Fin 8192) :
    inBlock m d 3 t (ix2 0 r) = ∑ k, cK m d (ix2 r k) * cK m d (ix2 r k) := by
  rw [← code_norms_at m d]
  unfold inBlock
  refine congrArg (V0 m d (Proc.devRef .tc main_v6)) (funext fun i => Fin.ext ?_)
  blk_simp
  fin_cases i
  · exact zero_block _ _ _ (index_3 t).1
  · exact zero_block _ _ _ (index_3 t).2

end Cert.Proof

end
-- ==== Proof.Row.lean ====
/- The row of indices that the TensorCore kernel leaves: for each token its nearest code. -/
module

public import proofs.«01_k».proof.Proof.Shown
public import proofs.«01_k».proof.Proof.Region

@[expose] public section

set_option maxRecDepth 16384

noncomputable section

namespace Cert.Proof

open Cert.KernelIdeal Cert.KernelIdeal.Gen
open Idealize.ShloMosaic Idealize.ShloMosaic.TcCoe
open Idealize.SL.Sem

variable (m : (ℓ : Loc nD τ sig) → Buf (Elt Ideal) ℓ)

/-- What a point leaves is the kernel's value of its whole blocks. -/
theorem outRow_eq (x0 : Vec Ideal S8192x64 .f32) (x1 : Vec Ideal S64x1024 .f32) (x2 : Vec Ideal S1x1024 .f32) (x3 : Vec Ideal S1x8192 .f32) :
    outRow x0 x1 x2 x3 = k0_pay1 x0 x1 x2 x3 := by
  have h0 : ∀ a : Fin 2, (![0, 0] : Fin 2 → Nat) a = 0 := by decide
  unfold outRow
  rw [View.ld_unit_lit _ x0 h0, View.ld_unit_lit _ x1 h0, View.ld_unit_lit _ x2 h0, View.ld_unit_lit _ x3 h0]
  exact View.canon_cons_unit_lit _ _ _ h0

/-- The row of indices one point leaves, column by column. -/
theorem outRow_best (d : Dev nD) (t : Fin cfg0.N) (j : Fin 1024) (n : Fin 16384) (h : n.val = t.val * 1024 + j.val) :
    ∃ r, IsBest (dist (zK m d) (cK m d) n) r
      ∧ outRow (inBlock m d 0 t) (inBlock m d 1 t) (inBlock m d 2 t) (inBlock m d 3 t) (ix2 0 j) = BitVec.ofNat 32 r.val := by
  obtain ⟨r, hb, hr⟩ := pay_best (inBlock m d 0 t) (inBlock m d 1 t) (inBlock m d 2 t) (inBlock m d 3 t) j
  refine ⟨r, ?_, ?_⟩
  · refine cast (congrArg (fun f => IsBest f r) (funext fun r' => ?_)) hb
    show _ = dist (zK m d) (cK m d) n r'
    rw [block_norms m d t j n h, block_code_norms]
    unfold dist
    refine congrArg (fun s => _ - s + _) (Finset.sum_congr rfl fun k _ => ?_)
    rw [block_codes, block_toks m d t k j n h, mul_comm]
  · rw [← hr]
    rw [outRow_eq]

/-- Two points write different columns. -/
theorem index_4_inj : ∀ t t' : Fin cfg0.N, win0_4.index t = win0_4.index t' → t = t' := fun t t' h =>
  Fin.ext (by rw [← (index_4 t).2, ← (index_4 t').2, h])

theorem blocks_apart (t t' : Fin cfg0.N) (h : t ≠ t') : Disjoint ((cfg0.win 4).blk t).view.set ((cfg0.win 4).blk t').view.set :=
  (cfg0.win 4).disjoint_blk fun e => h (index_4_inj t t' e)

/-- The whole row: each token's index is that of its nearest code. -/
theorem idxRow_best (d : Dev nD) (n : Fin 16384) :
    ∃ r, IsBest (dist (zK m d) (cK m d) n) r ∧ idxRow m d (ix2 0 n) = BitVec.ofNat 32 r.val := by
  obtain ⟨t, ht⟩ : ∃ t : Fin cfg0.N, t.val = n.val / 1024 := ⟨⟨n.val / 1024, by have := n.isLt; show n.val / 1024 < 16; omega⟩, rfl⟩
  have hn : n.val = t.val * 1024 + (⟨n.val % 1024, Nat.mod_lt _ (by decide)⟩ : Fin 1024).val := by
    rw [ht]; show n.val = n.val / 1024 * 1024 + n.val % 1024; omega
  obtain ⟨r, hb, hr⟩ := outRow_best m d t _ n hn
  refine ⟨r, hb, ?_⟩
  rw [← hr]
  have hblk := (dats m 0 d).read_blk_arrAt_eq_flushed 4 (fun t t' _ _ h => blocks_apart t t' h) cfg0.N t t.isLt (flush0_4 t)
  have hf : (dats m 0 d).flushed 4 t = (cfg0.win 4).cut (grid0.coords t) (outRow (inBlock m d 0 t) (inBlock m d 1 t) (inBlock m d 2 t) (inBlock m d 3 t)) := by
    show (cfg0.win 4).cut (grid0.coords t) ((dats m 0 d).after 4 t) = _
    rw [after_4]
  have he := congrFun (hblk.trans hf) (ix2 0 ⟨n.val % 1024, Nat.mod_lt _ (by decide)⟩)
  refine Eq.trans (congrArg (idxRow m d) (funext fun i => Fin.ext ?_)) he
  blk_simp
  fin_cases i
  · exact (zero_block _ _ _ (index_4 t).1).symm
  · exact hn.trans (congrArg (fun a => a * 1024 + n.val % 1024) (index_4 t).2).symm

end Cert.Proof

end
-- ==== Proof.Values.lean ====
/- What the kernel leaves: for each token its nearest code and that code's index. -/
module

public import proofs.«01_k».proof.Proof.Row
public import proofs.«01_k».proof.Proof.Main
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe
open Idealize.SL.Sem

variable (m : (ℓ : Loc nD τ sig) → Buf (Elt Ideal) ℓ)

/-- The arguments while the program runs. -/
theorem toks_kept1 (d : Dev nD) : V1 m d (Proc.devRef .tc main_arg0) = zK m d := by
  rw [V1_other m d main_arg0 (by decide)]
  unfold V0
  after_results

theorem codes_kept1 (d : Dev nD) : V1 m d (Proc.devRef .tc main_arg1) = cK m d := by
  rw [V1_other m d main_arg1 (by decide), codes_at]

/-- The list that the SparseCore is given is the row of indices. -/
theorem list_at (d : Dev nD) (n : Fin 16384) : Lx m d (ix2 0 n) = idxRow m d (ix2 0 n) := by
  unfold Lx V2 rLst
  after_results
  rw [V1_row]
  first | done | pointwise

/-- The table that the SparseCore is given starts each row with a code. -/
theorem table_at (d : Dev nD) (r : Fin 8192) (k : Fin 64) : Tb m d (ix2 r ⟨k.val, by omega⟩) = cK m d (ix2 r k) := by
  unfold Tb V2 rTab
  after_results
  simp -implicitDefEqProofs only [StableHlo.TRef.toBuf, StableHlo.TRef.ofBuf, cast_cast, cast_eq]
  rw [codes_kept1]
  pointwise

/-- Every index lies inside the table. -/
theorem list_in (d : Dev nD) (y : S1x16384.Idx) : (Lx m d y).toNat < 8192 := by
  obtain ⟨a, n, rfl⟩ : ∃ (a : Fin 1) (n : Fin 16384), y = ix2 a n := ⟨_, _, eq_ix2 _⟩
  obtain rfl : a = 0 := Subsingleton.elim _ _
  obtain ⟨r, -, hr⟩ := idxRow_best m d n
  have := r.isLt
  rw [list_at, hr, BitVec.toNat_ofNat]
  omega

/-- A row of the gathered array is the code that the index names. -/
theorem gathered_at (d : Dev nD) (n : Fin 16384) (r : Fin 8192) (h : idxRow m d (ix2 0 n) = BitVec.ofNat 32 r.val) (k : Fin 64) :
    gathered (Tb m d) (Lx m d) (ix2 n ⟨k.val, by omega⟩) = cK m d (ix2 r k) := by
  have hl : Lx m d (lstIx n) = BitVec.ofNat 32 r.val := by
    have e : lstIx n = ix2 0 n := eq_ix2 _
    rw [e, list_at, h]
  rw [← table_at]
  show Tb m d (tabIx (Lx m d (lstIx n)).toNat ⟨k.val, by omega⟩) = _
  rw [hl]
  refine congrArg (Tb m d) (Eq.trans (eq_ix2 _) ?_)
  have hr := r.isLt
  refine congrArg (fun a : Fin 8192 => (ix2 a ⟨k.val, by omega⟩ : S8192x128.Idx)) (Fin.ext ?_)
  show (BitVec.ofNat 32 r.val).toNat % 8192 = r.val
  rw [BitVec.toNat_ofNat]
  omega

/-- The first result: the code that the token's index names. -/
theorem out_at (d : Dev nD) (a : Fin 16) (b : Fin 1024) (k : Fin 64) (r : Fin 8192)
    (h : idxRow m d (ix2 0 ⟨a.val * 1024 + b.val, by omega⟩) = BitVec.ofNat 32 r.val) :
    V4 m d (Proc.devRef .tc main_v14) (ix3 a b k) = cK m d (ix2 r k) := by
  have hg := gathered_at m d _ r h k
  unfold V4
  after_results
  rw [show V3 m d (Proc.devRef .tc main_v12) = gathered (Tb m d) (Lx m d) from V3_out m d]
  pointwise [hg]

/-- The second result: the token's index. -/
theorem idx_at (d : Dev nD) (a : Fin 16) (b : Fin 1024) :
    V4 m d (Proc.devRef .tc main_v15) (ix2 a b) = idxRow m d (ix2 0 ⟨a.val * 1024 + b.val, by omega⟩) := by
  unfold V4
  after_results
  rw [V3_other m d _ (by decide)]
  unfold V2
  after_results
  rw [V1_row]
  pointwise

/-- The arguments at the end. -/
theorem args_kept (d : Dev nD) : V4 m d (Proc.devRef .tc main_arg0) = zK m d ∧ V4 m d (Proc.devRef .tc main_arg1) = cK m d := by
  unfold V4
  constructor
  · after_results
    rw [V3_other m d _ (by decide)]
    unfold V2
    after_results
    exact toks_kept1 m d
  · after_results
    rw [V3_other m d _ (by decide)]
    unfold V2
    after_results
    exact codes_kept1 m d

end Cert.Proof

end
-- ==== Proof.RefRun.lean ====
/- The run of the reference program: its operations in order, and what the arrays hold at the end. -/
module

public import proofs.«01_k».proof.Proof.Gen.ReferenceIdeal
public import Idealize.ShloMosaic.Lib.StableHlo.RunHlo
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe
open Idealize.SL.Sem

variable {F : FTy → Type} [FloatOps F]

/-- The operations that compute every token's distance to every code. -/
abbrev distOps : List (HloOp τ sig (Elt F)) :=
  [ StableHlo.reshape main_arg0 main_v0 (rfl : (.f32 : EltTy) = .f32) shapeCasts_S16x1024x64_S16384x64,
    StableHlo.binary main_v0 main_v0 main_v1 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v1 main_cst main_v2 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v2 main_v3 (broadcastInDim S16384x1 ![0] bcast_S16384_S16384x1_0 : (⟨S16384, .f32⟩ : BufTy).Contents (Elt F) → (⟨S16384x1, .f32⟩ : BufTy).Contents (Elt F)),
    StableHlo.nullary main_cst_0 (constant S_ .f32 0x40000000#32),
    StableHlo.unary main_cst_0 main_v4 (broadcastInDim S16384x64 ![] bcast_S_S16384x64 : (⟨S_, .f32⟩ : BufTy).Contents (Elt F) → (⟨S16384x64, .f32⟩ : BufTy).Contents (Elt F)),
    StableHlo.binary main_v4 main_v0 main_v5 (mulf : (⟨S16384x64, .f32⟩ : BufTy).Contents (Elt F) → (⟨S16384x64, .f32⟩ : BufTy).Contents (Elt F) → (⟨S16384x64, .f32⟩ : BufTy).Contents (Elt F)),
    StableHlo.unary main_arg1 main_v6 ((transpose S64x8192 [1, 0] · transposes_S8192x64_S64x8192_1_0) : (⟨S8192x64, .f32⟩ : BufTy).Contents (Elt F) → (⟨S64x8192, .f32⟩ : BufTy).Contents (Elt F)),
    StableHlo.binary main_v5 main_v6 main_v7 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
    StableHlo.unary main_v3 main_v8 (broadcastInDim S16384x8192 ![0, 1] bcast_S16384x1_S16384x8192_0_1 : (⟨S16384x1, .f32⟩ : BufTy).Contents (Elt F) → (⟨S16384x8192, .f32⟩ : BufTy).Contents (Elt F)),
    StableHlo.binary main_v8 main_v7 main_v9 (subf : (⟨S16384x8192, .f32⟩ : BufTy).Contents (Elt F) → (⟨S16384x8192, .f32⟩ : BufTy).Contents (Elt F) → (⟨S16384x8192, .f32⟩ : BufTy).Contents (Elt F)),
    StableHlo.binary main_arg1 main_arg1 main_v10 (mulf : (⟨S8192x64, .f32⟩ : BufTy).Contents (Elt F) → (⟨S8192x64, .f32⟩ : BufTy).Contents (Elt F) → (⟨S8192x64, .f32⟩ : BufTy).Contents (Elt F)),
    StableHlo.nullary main_cst_1 (constant S_ .f32 0x00000000#32),
    StableHlo.binary main_v10 main_cst_1 main_v11 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v11 main_v12 (broadcastInDim S1x8192 ![1] bcast_S8192_S1x8192_1 : (⟨S8192, .f32⟩ : BufTy).Contents (Elt F) → (⟨S1x8192, .f32⟩ : BufTy).Contents (Elt F)),
    StableHlo.unary main_v12 main_v13 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v9 main_v13 main_v14 (addf : (⟨S16384x8192, .f32⟩ : BufTy).Contents (Elt F) → (⟨S16384x8192, .f32⟩ : BufTy).Contents (Elt F) → (⟨S16384x8192, .f32⟩ : BufTy).Contents (Elt F)) ]

/-- The operations that find each token's nearest code. -/
abbrev argOps : List (HloOp τ sig (Elt F)) :=
  [ StableHlo.TRef.nullary (.of main_call0_v0 : StableHlo.TRef sig ⟨S16384x8192, .i32⟩) (iotaInDim S16384x8192 32 1),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v14 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_call0_v1_0 : StableHlo.TRef sig ⟨S16384, .f32⟩) (fun x y u v j => (Host.argReduce reducer_argmin_f32_i32 x y u v reducesTo_S16384x8192_S16384_d1 h_S_ j).1),
    StableHlo.TRef.quaternary (.of main_v14 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_v15 : StableHlo.TRef sig ⟨S16384, .i32⟩) (fun x y u v j => (Host.argReduce reducer_argmin_f32_i32 x y u v reducesTo_S16384x8192_S16384_d1 h_S_ j).2) ]

/-- The operations that read the chosen codes out of the codebook. -/
abbrev takeOps : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16384, .i32⟩) (broadcastInDim S16384 ![] bcast_S_S16384),
    StableHlo.TRef.binary (.of main_v15 : StableHlo.TRef sig ⟨S16384, .i32⟩) (.of main_call1_v0 : StableHlo.TRef sig ⟨S16384, .i32⟩) (.of main_call1_v1 : StableHlo.TRef sig ⟨S16384, .i1⟩) (cmpi .slt),
    StableHlo.TRef.nullary (.of main_call1_c_0 : StableHlo.TRef sig ⟨S_, .i32⟩) (constantI S_ 32 8192#32),
    StableHlo.TRef.unary (.of main_call1_c_0 : StableHlo.TRef sig ⟨S_, .i32⟩) (.of main_call1_v2 : StableHlo.TRef sig ⟨S16384, .i32⟩) (broadcastInDim S16384 ![] bcast_S_S16384),
    StableHlo.TRef.binary (.of main_v15 : StableHlo.TRef sig ⟨S16384, .i32⟩) (.of main_call1_v2 : StableHlo.TRef sig ⟨S16384, .i32⟩) (.of main_call1_v3 : StableHlo.TRef sig ⟨S16384, .i32⟩) addi,
    StableHlo.TRef.ternary (.of main_call1_v1 : StableHlo.TRef sig ⟨S16384, .i1⟩) (.of main_call1_v3 : StableHlo.TRef sig ⟨S16384, .i32⟩) (.of main_v15 : StableHlo.TRef sig ⟨S16384, .i32⟩) (.of main_call1_v4 : StableHlo.TRef sig ⟨S16384, .i32⟩) select,
    StableHlo.TRef.unary (.of main_call1_v4 : StableHlo.TRef sig ⟨S16384, .i32⟩) (.of main_call1_v5 : StableHlo.TRef sig ⟨S16384x1, .i32⟩) (broadcastInDim S16384x1 ![0] bcast_S16384_S16384x1_0),
    StableHlo.TRef.nullary (.of main_call1_c_1 : StableHlo.TRef sig ⟨S1, .i32⟩) (constantI S1 32 8191#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16384x1, .i32⟩) (broadcastInDim S16384x1 ![] bcast_S_S16384x1),
    StableHlo.TRef.binary (.of main_call1_v5 : StableHlo.TRef sig ⟨S16384x1, .i32⟩) (.of main_call1_v6 : StableHlo.TRef sig ⟨S16384x1, .i32⟩) (.of main_call1_v7 : StableHlo.TRef sig ⟨S16384x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S16384x1, .i32⟩) (broadcastInDim S16384x1 ![0, 1] bcast_S1x1_S16384x1_0_1),
    StableHlo.TRef.binary (.of main_call1_v5 : StableHlo.TRef sig ⟨S16384x1, .i32⟩) (.of main_call1_v9 : StableHlo.TRef sig ⟨S16384x1, .i32⟩) (.of main_call1_v10 : StableHlo.TRef sig ⟨S16384x1, .i1⟩) (cmpi .sle),
    StableHlo.TRef.binary (.of main_call1_v7 : StableHlo.TRef sig ⟨S16384x1, .i1⟩) (.of main_call1_v10 : StableHlo.TRef sig ⟨S16384x1, .i1⟩) (.of main_call1_v11 : StableHlo.TRef sig ⟨S16384x1, .i1⟩) andi,
    StableHlo.TRef.nullary (.of main_call1_c_3 : StableHlo.TRef sig ⟨S_, .i1⟩) (constantI S_ 1 1#1),
    StableHlo.TRef.binary (.of main_call1_v11 : StableHlo.TRef sig ⟨S16384x1, .i1⟩) (.of main_call1_c_3 : StableHlo.TRef sig ⟨S_, .i1⟩) (.of main_call1_v12 : StableHlo.TRef sig ⟨S16384, .i1⟩) (fun x v => Host.reduce IntOp.andi x v reducesTo_S16384x1_S16384_d1 h_S_),
    StableHlo.TRef.binary (.of main_arg1 : StableHlo.TRef sig ⟨S8192x64, .f32⟩) (.of main_call1_v5 : StableHlo.TRef sig ⟨S16384x1, .i32⟩) (.of main_call1_v13 : StableHlo.TRef sig ⟨S16384x64, .f32⟩) (fun x i => Host.gather gather_S8192x64_S16384x1_S16384x64_1_0_n_n_0_1_164 x i),
    StableHlo.TRef.unary (.of main_call1_v12 : StableHlo.TRef sig ⟨S16384, .i1⟩) (.of main_call1_v14 : StableHlo.TRef sig ⟨S16384x64, .i1⟩) (broadcastInDim S16384x64 ![0] bcast_S16384_S16384x64_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S16384x64, .f32⟩) (broadcastInDim S16384x64 ![] bcast_S_S16384x64),
    StableHlo.TRef.ternary (.of main_call1_v14 : StableHlo.TRef sig ⟨S16384x64, .i1⟩) (.of main_call1_v13 : StableHlo.TRef sig ⟨S16384x64, .f32⟩) (.of main_call1_v15 : StableHlo.TRef sig ⟨S16384x64, .f32⟩) (.of main_v16 : StableHlo.TRef sig ⟨S16384x64, .f32⟩) select ]

/-- The operations that add the tokens back and give the results their shapes. -/
abbrev endOps : List (HloOp τ sig (Elt F)) :=
  [ StableHlo.reshape main_v16 main_v17 (rfl : (.f32 : EltTy) = .f32) shapeCasts_S16384x64_S16x1024x64,
    StableHlo.binary main_v17 main_arg0 main_v18 (subf : (⟨S16x1024x64, .f32⟩ : BufTy).Contents (Elt F) → (⟨S16x1024x64, .f32⟩ : BufTy).Contents (Elt F) → (⟨S16x1024x64, .f32⟩ : BufTy).Contents (Elt F)),
    StableHlo.binary main_arg0 main_v18 main_v19 (addf : (⟨S16x1024x64, .f32⟩ : BufTy).Contents (Elt F) → (⟨S16x1024x64, .f32⟩ : BufTy).Contents (Elt F) → (⟨S16x1024x64, .f32⟩ : BufTy).Contents (Elt F)),
    StableHlo.reshape main_v15 main_v20 (rfl : (.i32 : EltTy) = .i32) shapeCasts_S16384_S16x1024 ]

/-- The program is those four stretches in order. -/
theorem main_eq (d : Dev nD) : main (F := F) d = (StableHlo.seq distOps >>= fun _ => StableHlo.seq argOps >>= fun _ =>
    StableHlo.seq takeOps >>= fun _ => StableHlo.seq endOps) := by
  rfl

/-- One list of them. -/
abbrev refOps : List (HloOp τ sig (Elt F)) := distOps ++ (argOps ++ (takeOps ++ endOps))

theorem main_seq (d : Dev nD) : main (F := F) d = StableHlo.seq refOps := by
  rw [main_eq, StableHlo.seq_append, StableHlo.seq_append, StableHlo.seq_append]

/-- Every operation touches TensorCore buffers only and draws nothing fresh. -/
theorem distOps_sub : (distOps : List (HloOp τ sig (Elt F))).Forall fun op => op.bufs ⊆ StableHlo.tcRefs τ sig :=
  ⟨StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
theorem argOps_sub : (argOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem takeOps_sub : (takeOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem endOps_sub : (endOps : List (HloOp τ sig (Elt F))).Forall fun op => op.bufs ⊆ StableHlo.tcRefs τ sig :=
  ⟨StableHlo.reshape_bufs_sub .., StableHlo.binary_bufs_sub .., StableHlo.binary_bufs_sub .., StableHlo.reshape_bufs_sub ..⟩
theorem refOps_sub : (refOps : List (HloOp τ sig (Elt F))).Forall fun op => op.bufs ⊆ StableHlo.tcRefs τ sig :=
  List.forall_append.mpr ⟨distOps_sub, List.forall_append.mpr ⟨argOps_sub, List.forall_append.mpr ⟨takeOps_sub, endOps_sub⟩⟩⟩
theorem refOps_fresh : ∀ op ∈ (refOps : List (HloOp τ sig (Elt F))), op.fresh = ∅ :=
  List.forall_iff_forall_mem.mp (StableHlo.forall_fresh_of_map rfl)

variable (m : (ℓ : Loc nD τ sig) → Buf (Elt F) ℓ) (ρ : Dev nD → PrngReg)

/-- The arrays after each stretch. -/
abbrev W0 (d : Dev nD) : Valuation τ sig (Elt F) := StableHlo.launchContents m d
def W1 (d : Dev nD) : Valuation τ sig (Elt F) := StableHlo.after distOps (W0 m d)
def W2 (d : Dev nD) : Valuation τ sig (Elt F) := StableHlo.after argOps (W1 m d)
def W3 (d : Dev nD) : Valuation τ sig (Elt F) := StableHlo.after takeOps (W2 m d)
def W4 (d : Dev nD) : Valuation τ sig (Elt F) := StableHlo.after endOps (W3 m d)

/-- The whole line ends with those of the last stretch. -/
theorem after_refOps (d : Dev nD) : StableHlo.after refOps (W0 m d) = W4 m d := by
  rfl

/-- The reference ends with every array at those contents and every counter at zero. -/
theorem run_main : θ_run (defs (F := F)) (onTc (τ := τ) (main (F := F))) ⟨m, fun _ => 0, ρ⟩
    (fun r => (∀ (d : Dev nD) (b : Ref sig .tc), r.2.mem ((d.tc : Thread nD τ).loc b) = W4 m d (Proc.devRef .tc b)) ∧ r.2.sem = fun _ => 0) :=
  θ_run_mono (StableHlo.run_seq (by decide) (by decide) defs main (fun _ => refOps) main_seq (fun _ => refOps_sub) m ρ (fun _ => refOps_fresh))
    fun r h => ⟨fun d b => (h d b).trans (congrFun (after_refOps m d) _), sem_eq_zero_of_no_sems (by decide) _⟩

end Cert.Proof.Ref

end
-- ==== Proof.RefDist.lean ====
/- What the reference's arrays hold: the distances. -/
module

public import proofs.«01_k».proof.Proof.RefRun
public import proofs.«01_k».proof.Proof.Dist
public import Idealize.ShloMosaic.Lib.Claim
public import Idealize.ShloMosaic.Lib.Tactic.WordOmega
public import Idealize.ShloMosaic.Lib.Routing.Ops

@[expose] public section

set_option maxRecDepth 16384

noncomputable section

namespace Cert.Proof.Ref

open Cert.ReferenceIdeal Cert.ReferenceIdeal.Gen
open Idealize.ShloMosaic Idealize.ShloMosaic.TcCoe
open Idealize.SL.Sem

variable (m : (ℓ : Loc nD τ sig) → Buf (Elt Ideal) ℓ)

/-- The two arguments. -/
abbrev zA (d : Dev nD) : Toks := m ((d.tc : Thread nD τ).loc main_arg0)
abbrev cA (d : Dev nD) : Codes := m ((d.tc : Thread nD τ).loc main_arg1)

/-- After the first stretch the distances are in place. -/
theorem dist_at (d : Dev nD) (n : Fin 16384) (r : Fin 8192) :
    W1 m d (Proc.devRef .tc main_v14) (ix2 n r) = dist (zA m d) (cA m d) n r := by
  unfold W1
  after_results
  pointwise

  rfl

/-- The reference's step between two pairs is the choice of the lesser. -/
theorem reducer_eq (a b : EReal × BitVec 32) : reducer_argmin_f32_i32 (F := Ideal) a b = pick a b := by
  unfold reducer_argmin_f32_i32 pick
  simp only [Ideal.cmpf_def, Ideal.cmp, IntOp.cmpi, IntOp.ori, IntOp.andi, Scalar.select, BitVec.slt]
  by_cases h1 : a.1 < b.1 <;> by_cases h2 : a.1 = b.1 <;> by_cases h3 : a.2.toInt < b.2.toInt <;> simp [h1, h2, h3]
  all_goals exact Prod.ext h2.symm rfl

/-- After the second stretch each token's index is that of its nearest code. -/
theorem index_at (d : Dev nD) (n : Fin 16384) :
    ∃ r, IsBest (dist (zA m d) (cA m d) n) r ∧ W2 m d (Proc.devRef .tc main_v15) (ix1 n) = BitVec.ofNat 32 r.val := by
  have hf : reducer_argmin_f32_i32 (F := Ideal) = pick := funext fun a => funext fun b => reducer_eq a b
  unfold W2
  after_results
  simp -implicitDefEqProofs only [StableHlo.TRef.toBuf, StableHlo.TRef.ofBuf, cast_cast, cast_eq]
  rw [hf, Ideal.argReduce_eq_reduce2, Host.reduce2_eq_foldl_fiber]
  refine reference_best (by decide) (by decide) (dist (zA m d) (cA m d) n) _ fun p => ?_
  unfold Host.argReduceFiber
  simp only [List.mem_map, List.mem_filter, List.mem_finRange, true_and, decide_eq_true_eq]
  constructor
  · rintro ⟨q, hq, rfl⟩
    obtain ⟨a, b, hab⟩ : ∃ (a : Fin 16384) (b : Fin 8192), S16384x8192.rowMajor.symm q = ix2 a b := ⟨_, _, eq_ix2 _⟩
    rw [hab] at hq ⊢
    have ha : a = n := by
      have h0 := congrFun hq 0
      have h1 := congrArg Fin.val h0
      exact Fin.ext h1
    subst ha
    refine ⟨b, Prod.ext (dist_at m d a b) rfl⟩
  · rintro ⟨r, rfl⟩
    refine ⟨S16384x8192.rowMajor (ix2 n r), ?_, ?_⟩
    · rw [Equiv.symm_apply_apply]
      funext i
      have : i = 0 := Subsingleton.elim _ _
      subst this
      exact Fin.ext rfl
    · rw [Equiv.symm_apply_apply]
      exact Prod.ext (dist_at m d n r) rfl

/-- The later stretches leave the indices and the codebook alone. -/
theorem codes_kept (d : Dev nD) : W2 m d (Proc.devRef .tc main_arg1) = cA m d := by
  unfold W2 W1
  after_results

theorem index_kept (d : Dev nD) : W3 m d (Proc.devRef .tc main_v15) = W2 m d (Proc.devRef .tc main_v15) := by
  unfold W3
  after_results

/-- The conjunction of truths is a truth. -/
theorem fold_ones {ι : Type} (s : Finset ι) : s.fold IntOp.andi 1#1 (fun _ => 1#1) = 1#1 := by
  induction s using Finset.cons_induction with
  | empty => rfl
  | cons a s ha ih => rw [Finset.fold_cons, ih]; rfl

/-- After the third stretch each token's row is the code its index names. -/
theorem take_at (d : Dev nD) (n : Fin 16384) (r : Fin 8192) (h : W2 m d (Proc.devRef .tc main_v15) (ix1 n) = BitVec.ofNat 32 r.val) (k : Fin 64) :
    W3 m d (Proc.devRef .tc main_v16) (ix2 n k) = cA m d (ix2 r k) := by
  unfold W3
  after_results
  simp -implicitDefEqProofs only [StableHlo.TRef.toBuf, StableHlo.TRef.ofBuf, cast_cast, cast_eq]
  pointwise [h]
  have hr := r.isLt
  have hs : IntOp.cmpi .slt (BitVec.ofNat 32 r.val) 0#32 = 0#1 := by word_omega
  have hg : IntOp.cmpi .sge (BitVec.ofNat 32 r.val) 0#32 = 1#1 := by word_omega
  have hl : IntOp.cmpi .sle (BitVec.ofNat 32 r.val) 8191#32 = 1#1 := by word_omega
  have ho : IntOp.andi 1#1 1#1 = 1#1 := rfl
  have hz : Scalar.select 0#1 (IntOp.addi (BitVec.ofNat 32 r.val) 8192#32) (BitVec.ofNat 32 r.val) = BitVec.ofNat 32 r.val := rfl
  simp only [hs, hz, hg, hl, ho]
  have hrow := Routing.gather_row gather_S8192x64_S16384x1_S16384x64_1_0_n_n_0_1_164 rfl rfl rfl rfl rfl (W2 m d (Proc.devRef .tc main_arg1)) (broadcastInDim S16384x1 ![0] bcast_S16384_S16384x1_0
          (select
            (cmpi CmpIPredicate.slt (W2 m d (Proc.devRef .tc main_v15))
              (broadcastInDim S16384 ![] bcast_S_S16384 (constantI S_ 32 0#32)))
            (addi (W2 m d (Proc.devRef .tc main_v15))
              (broadcastInDim S16384 ![] bcast_S_S16384 (constantI S_ 32 8192#32)))
            (W2 m d (Proc.devRef .tc main_v15)))) n k r (by pointwise [h]; rw [hs, hz]) (by norm_num)
  have e1 : (ValueIdx.ix2 n k : S16384x64.Idx) = ix2 n k := eq_ix2 _
  have e2 : (ValueIdx.ix2 r k : S8192x64.Idx) = ix2 r k := eq_ix2 _
  rw [e1, e2] at hrow
  rw [fold_ones, hrow, codes_kept]
  rfl

/-- The result's first half: the token and what is to be added to reach the code. -/
theorem out_at (d : Dev nD) (a : Fin 16) (b : Fin 1024) (k : Fin 64) (r : Fin 8192)
    (h : W2 m d (Proc.devRef .tc main_v15) (ix1 ⟨a.val * 1024 + b.val, by omega⟩) = BitVec.ofNat 32 r.val) :
    W4 m d (Proc.devRef .tc main_v19) (ix3 a b k) = zA m d (ix3 a b k) + (cA m d (ix2 r k) - zA m d (ix3 a b k)) := by
  have ht := take_at m d ⟨a.val * 1024 + b.val, by omega⟩ r h k
  have hz : W3 m d (Proc.devRef .tc main_arg0) = zA m d := by
    unfold W3 W2 W1
    after_results
  unfold W4
  after_results
  pointwise [ht, hz]

/-- The result's second half: the index. -/
theorem idx_at (d : Dev nD) (a : Fin 16) (b : Fin 1024) :
    W4 m d (Proc.devRef .tc main_v20) (ix2 a b) = W2 m d (Proc.devRef .tc main_v15) (ix1 ⟨a.val * 1024 + b.val, by omega⟩) := by
  unfold W4
  after_results
  pointwise [index_kept m d]

/-- Both arguments are left alone. -/
theorem args_kept (d : Dev nD) : W4 m d (Proc.devRef .tc main_arg0) = zA m d ∧ W4 m d (Proc.devRef .tc main_arg1) = cA m d := by
  unfold W4 W3 W2 W1
  constructor <;> after_results

end Cert.Proof.Ref

end
-- ==== Proof.Finite.lean ====
/- The precondition read: tokens are numbers, so that adding the difference of a code gives the code. -/
module

public import proofs.«01_k».proof.Proof.Dist
public import proofs.«01_k».proof.Pre_finite
public import Idealize.ShloMosaic.Lib.Pointwise
public import Idealize.ShloMosaic.Lib.ReduceAll

@[expose] public section

set_option maxRecDepth 16384

noncomputable section

namespace Cert.Proof

open Idealize.ShloMosaic

variable [Cert.Pre_finite.Facts]

/-- The precondition says that no token has an infinite entry. -/
theorem finite_toks (z : Toks) (c : Codes) (h : Cert.Pre_finite.fn (F := Ideal) z c = fun _ => 1#1) (a : Fin 16) (b : Fin 1024) (k : Fin 64) :
    z (ix3 a b k) ≠ ⊤ ∧ z (ix3 a b k) ≠ ⊥ := by
  have h0 := congrFun h (fun i => i.elim0)
  unfold Cert.Pre_finite.fn at h0
  have : Subsingleton Cert.Pre_finite.S_.Idx := ⟨fun i j => funext fun q => q.elim0⟩
  have h1 := Host.reduce_andi_all _ _ _ _ _ h0 (ix3 a b k)
  have htop : Ideal.ofBits .f32 0x7F800000#32 = (⊤ : EReal) := by simp [Ideal.ofBits, Ideal.ieee]
  have h2 : Ideal.cmp .olt (max (z (ix3 a b k) : EReal) (-z (ix3 a b k))) (⊤ : EReal) = 1#1 := by
    rw [← htop]
    exact h1
  have h3 : max (z (ix3 a b k) : EReal) (-z (ix3 a b k)) < ⊤ := by
    by_contra hn
    simp [Ideal.cmp, hn] at h2
  rw [max_lt_iff] at h3
  exact ⟨h3.1.ne, fun e => h3.2.ne (by rw [e]; rfl)⟩

/-- Adding what is missing to a number gives what was wanted, be that infinite. -/
theorem add_missing (z x : EReal) (h : z ≠ ⊤ ∧ z ≠ ⊥) : z + (x - z) = x := by
  lift z to ℝ using h
  induction x using EReal.rec with
  | bot => rfl
  | top => rfl
  | coe x => rw [← EReal.coe_sub, ← EReal.coe_add]; congr 1; ring

end Cert.Proof

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Launch
public import proofs.«01_k».proof.Proof.Values
public import proofs.«01_k».proof.Proof.RefDist
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Cert.KernelIdeal

/-- The kernel's run at the extended reals, where every index lies inside the table. -/
theorem kernel_run (m : (ℓ : Loc nD τ sig) → Buf (Elt Ideal) ℓ) (g : Dev nD → PrngReg) :
    θ_run (defs (F := Ideal)) (threads (F := Ideal)) ⟨m, fun _ => 0, g⟩ (fun r =>
      (∀ d : Dev nD, ∀ b ∈ Pipeline.ucRefs τ sig, r.2.mem (d, b) = V4 m d b) ∧ r.2.sem = fun _ => 0) :=
  run_main m g (list_in m)

/-- The arrays read at the end are among those the program keeps. -/
theorem kept_arg0 : Proc.devRef .tc main_arg0 ∈ Pipeline.ucRefs τ sig := by unfold Pipeline.ucRefs; decide
theorem kept_arg1 : Proc.devRef .tc main_arg1 ∈ Pipeline.ucRefs τ sig := by unfold Pipeline.ucRefs; decide
theorem kept_v14 : Proc.devRef .tc main_v14 ∈ Pipeline.ucRefs τ sig := by unfold Pipeline.ucRefs; decide
theorem kept_v15 : Proc.devRef .tc main_v15 ∈ Pipeline.ucRefs τ sig := by unfold Pipeline.ucRefs; decide

/-- The kernel's frame. -/
theorem kernel_frame (m : (ℓ : Loc nD τ sig) → Buf (Elt Ideal) ℓ) (g : Dev nD → PrngReg) :
    θ_run (defs (F := Ideal)) (threads (F := Ideal)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (kernel_run m g) (fun r h => ⟨fun c => ⟨(h.1 c _ kept_arg0).trans (args_kept m c).1, (h.1 c _ kept_arg1).trans (args_kept m c).2⟩, h.2⟩)

/-- The reference's frame. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)) ∧ r.2.sem = fun _ => 0) :=
  θ_run_mono (Ref.run_main m g) (fun r h => ⟨fun c => ⟨(h.1 c _).trans (Ref.args_kept m c).1, (h.1 c _).trans (Ref.args_kept m c).2⟩, h.2⟩)

/-- Both programs end with the same results. -/
theorem same_results (m : (ℓ : Loc nD τ sig) → Buf (Elt Ideal) ℓ)
    (m' : (ℓ : Loc ReferenceIdeal.nD ReferenceIdeal.τ ReferenceIdeal.sig) → Buf (Elt Ideal) ℓ) (c : Dev nD)
    (hz : Ref.zA m' c = zK m c) (hc : Ref.cA m' c = cK m c)
    (hfin : ∀ a b k, zK m c (ix3 a b k) ≠ ⊤ ∧ zK m c (ix3 a b k) ≠ ⊥) :
    Ref.W4 m' c (Proc.devRef .tc ReferenceIdeal.main_v19) = V4 m c (Proc.devRef .tc main_v14)
      ∧ Ref.W4 m' c (Proc.devRef .tc ReferenceIdeal.main_v20) = V4 m c (Proc.devRef .tc main_v15) := by
  have hidx : ∀ n : Fin 16384, ∃ r : Fin 8192, idxRow m c (ix2 0 n) = BitVec.ofNat 32 r.val
      ∧ Ref.W2 m' c (Proc.devRef .tc ReferenceIdeal.main_v15) (ix1 n) = BitVec.ofNat 32 r.val := fun n => by
    obtain ⟨r, hr, er⟩ := idxRow_best m c n
    obtain ⟨r', hr', er'⟩ := Ref.index_at m' c n
    rw [hz, hc] at hr'
    obtain rfl := hr.unique hr'
    exact ⟨r, er, er'⟩
  constructor
  · funext y
    obtain ⟨a, b, k, rfl⟩ : ∃ (a : Fin 16) (b : Fin 1024) (k : Fin 64), y = ix3 a b k := ⟨_, _, _, eq_ix3 _⟩
    obtain ⟨r, h, h'⟩ := hidx ⟨a.val * 1024 + b.val, by omega⟩
    refine (Ref.out_at m' c a b k r h').trans (Eq.trans ?_ (out_at m c a b k r h).symm)
    rw [hz, hc]
    exact add_missing _ _ (hfin a b k)
  · funext y
    obtain ⟨a, b, rfl⟩ : ∃ (a : Fin 16) (b : Fin 1024), y = ix2 a b := ⟨_, _, eq_ix2 _⟩
    obtain ⟨r, h, h'⟩ := hidx ⟨a.val * 1024 + b.val, by omega⟩
    exact (Ref.idx_at m' c a b).trans (h'.trans (h.symm.trans (idx_at m c a b).symm))

theorem claim : Cert.Claim := ⟨Cert.KernelIdeal.Gen.facts, Cert.ReferenceIdeal.Gen.facts, Cert.Pre_finite.Gen.facts,
  fun m g _ => kernel_frame m g, fun m g _ => kernel_frame m g, fun m g _ => reference_frame m g, fun m g _ => reference_frame m g,
  fun m g m' g' hpre hargs => by
    have hs := fun c => same_results m m' c (hargs c).1 (hargs c).2 (finite_toks _ _ (hpre c))
    refine ⟨fun c => V4 m c (Proc.devRef .tc main_v14), fun c => V4 m c (Proc.devRef .tc main_v15), ?_, ?_⟩
    · exact θ_run_mono (kernel_run m g) (fun r h c => ⟨h.1 c _ kept_v14, h.1 c _ kept_v15, (h.1 c _ kept_arg0).trans (args_kept m c).1,
        (h.1 c _ kept_arg1).trans (args_kept m c).2⟩)
    · exact θ_run_mono (Ref.run_main m' g') (fun r h c => ⟨(h.1 c _).trans (hs c).1, (h.1 c _).trans (hs c).2, (h.1 c _).trans (Ref.args_kept m' c).1,
        (h.1 c _).trans (Ref.args_kept m' c).2⟩)⟩

end Cert.Proof

end
